-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_label_is_first_maximum [hPre_label_is_first_maximum : Cert.Pre_label_is_first_maximum.Facts] (m : (ℓ : Loc Cert.KernelIdeal.nD Cert.KernelIdeal.τ Cert.KernelIdeal.sig) → Buf (Elt Ideal) ℓ) : Prop :=
  ∀ c : Dev Cert.KernelIdeal.nD,
    (Cert.Pre_label_is_first_maximum.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_label_is_first_maximum [hPre_label_is_first_maximum : Cert.Pre_label_is_first_maximum.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_label_is_first_maximum.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_label_is_first_maximum [hKernelIdeal : Cert.KernelIdeal.Facts] [hPre_label_is_first_maximum : Cert.Pre_label_is_first_maximum.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_label_is_first_maximum m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_label_is_first_maximum [hReferenceIdeal : Cert.ReferenceIdeal.Facts] [hPre_label_is_first_maximum : Cert.Pre_label_is_first_maximum.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_label_is_first_maximum m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_label_is_first_maximum [hKernelIdeal : Cert.KernelIdeal.Facts] [hReferenceIdeal : Cert.ReferenceIdeal.Facts] [hPre_label_is_first_maximum : Cert.Pre_label_is_first_maximum.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_label_is_first_maximum m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_label_is_first_maximum : Cert.Pre_label_is_first_maximum.Facts),
    quiescent_Kernel (hKernel := hKernel)
    ∧ quiescent_KernelIdeal (hKernelIdeal := hKernelIdeal)
    ∧ quiescent_KernelIdeal_pre_label_is_first_maximum (hKernelIdeal := hKernelIdeal) (hPre_label_is_first_maximum := hPre_label_is_first_maximum)
    ∧ quiescent_ReferenceIdeal (hReferenceIdeal := hReferenceIdeal)
    ∧ quiescent_ReferenceIdeal_pre_label_is_first_maximum (hReferenceIdeal := hReferenceIdeal) (hPre_label_is_first_maximum := hPre_label_is_first_maximum)
    ∧ preserves_Kernel_KernelIdeal
    ∧ algebraic_KernelIdeal_ReferenceIdeal_pre_label_is_first_maximum (hKernelIdeal := hKernelIdeal) (hReferenceIdeal := hReferenceIdeal) (hPre_label_is_first_maximum := hPre_label_is_first_maximum)
-- ==== Pre_label_is_first_maximum.lean ====
abbrev S1000000x100 : Shape := ⟨2, ![1000000, 100]⟩
abbrev S1000000 : Shape := ⟨1, ![1000000]⟩
abbrev S_ : Shape := ⟨0, ![]⟩

class Facts : Prop where
  reducesTo_S1000000x100_S1000000_d1 : S1000000x100.ReducesTo [1] S1000000
  h_S_ : 0 < S_.numel
  bcast_S1000000_S1000000x100_0 : S1000000.BroadcastsInDim S1000000x100 (![0] : Fin 1 → Fin S1000000x100.rank)

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_argmax {F : FTy → Type} [FloatOps F] (arg0 : FVec F S1000000x100 .f32) : IVec S1000000 32 :=
  let v0 : IVec S1000000x100 32 := iotaInDim S1000000x100 32 1
  let cst : FVec F S_ .f32 := constant S_ .f32 0xFF800000#32
  let c : IVec S_ 32 := constantI S_ 32 0#32
  let v1_0 : FVec F S1000000 .f32 := (fun x y u v j => (Host.argReduce reducer_argmax_f32_i32 x y u v reducesTo_S1000000x100_S1000000_d1 h_S_ j).1) arg0 v0 cst c
  let v1_1 : IVec S1000000 32 := (fun x y u v j => (Host.argReduce reducer_argmax_f32_i32 x y u v reducesTo_S1000000x100_S1000000_d1 h_S_ j).2) arg0 v0 cst c
  v1_1

def fn {F : FTy → Type} [FloatOps F] (main_arg0 : FVec F S1000000x100 .f32) (main_arg1 : IVec S1000000 32) : IVec S1000000x100 1 :=
  let main_cst : FVec F S_ .f32 := constant S_ .f32 0xFF800000#32
  let main_v0 : FVec F S1000000 .f32 := (fun x v => Host.reduce FloatOps.maximumf x v reducesTo_S1000000x100_S1000000_d1 h_S_) main_arg0 main_cst
  let main_v1 : FVec F S1000000x100 .f32 := broadcastInDim S1000000x100 ![0] bcast_S1000000_S1000000x100_0 main_v0
  let main_v2 : IVec S1000000 32 := fn_argmax (F := F) main_arg0
  let main_v3 : IVec S1000000x100 32 := broadcastInDim S1000000x100 ![0] bcast_S1000000_S1000000x100_0 main_v2
  let main_v4 : IVec S1000000x100 32 := broadcastInDim S1000000x100 ![0] bcast_S1000000_S1000000x100_0 main_arg1
  let main_v5 : IVec S1000000x100 32 := iotaInDim S1000000x100 32 1
  let main_v6 : IVec S1000000x100 1 := cmpf .une main_arg0 main_v1
  let main_v7 : IVec S1000000x100 1 := cmpi .ne main_v5 main_v4
  let main_v8 : IVec S1000000x100 1 := ori main_v6 main_v7
  let main_v9 : IVec S1000000x100 1 := cmpi .eq main_v3 main_v4
  let main_v10 : IVec S1000000x100 1 := ori main_v8 main_v9
  main_v10
-- ==== Kernel.lean ====
abbrev S1000000x100 : Shape := ⟨2, ![1000000, 100]⟩
abbrev S1000000 : Shape := ⟨1, ![1000000]⟩
abbrev S1x128 : Shape := ⟨2, ![1, 128]⟩
abbrev S8000x125 : Shape := ⟨2, ![8000, 125]⟩
abbrev S1x1 : Shape := ⟨2, ![1, 1]⟩
abbrev S20000x100 : Shape := ⟨2, ![20000, 100]⟩
abbrev S160x125 : Shape := ⟨2, ![160, 125]⟩
abbrev S8x128 : Shape := ⟨2, ![8, 128]⟩
abbrev S100x1 : Shape := ⟨2, ![100, 1]⟩
abbrev S20000 : Shape := ⟨1, ![20000]⟩
abbrev S20000x1 : Shape := ⟨2, ![20000, 1]⟩
abbrev S125x125 : Shape := ⟨2, ![125, 125]⟩
abbrev S1x125 : Shape := ⟨2, ![1, 125]⟩
abbrev S125x1 : Shape := ⟨2, ![125, 1]⟩
abbrev S1x100 : Shape := ⟨2, ![1, 100]⟩
abbrev S20000x128 : Shape := ⟨2, ![20000, 128]⟩
abbrev S1 : Shape := ⟨1, ![1]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S1000000x100, .f32⟩
  | .hbm, ⟨1, _⟩ => ⟨S1000000, .i32⟩
  | .hbm, ⟨2, _⟩ => ⟨S1x128, .f32⟩
  | .hbm, ⟨3, _⟩ => ⟨S1x128, .f32⟩
  | .hbm, ⟨4, _⟩ => ⟨S1000000, .f32⟩
  | .hbm, ⟨5, _⟩ => ⟨S8000x125, .f32⟩
  | .hbm, ⟨6, _⟩ => ⟨S1x1, .f32⟩
  | .hbm, ⟨7, _⟩ => ⟨S1x1, .f32⟩
  | .hbm, ⟨8, _⟩ => ⟨S_, .f32⟩
  | .hbm, ⟨9, _⟩ => ⟨S_, .f32⟩
  | .local _ .vmem, ⟨0, _⟩ => ⟨S1x128, .f32⟩
  | .local _ .vmem, ⟨1, _⟩ => ⟨S1x128, .f32⟩
  | .local _ .vmem, ⟨2, _⟩ => ⟨S20000x100, .f32⟩
  | .local _ .vmem, ⟨3, _⟩ => ⟨S20000x100, .f32⟩
  | .local _ .vmem, ⟨4, _⟩ => ⟨S160x125, .f32⟩
  | .local _ .vmem, ⟨5, _⟩ => ⟨S160x125, .f32⟩
  | .local _ .vmem, ⟨6, _⟩ => ⟨S1x1, .f32⟩
  | .local _ .vmem, ⟨7, _⟩ => ⟨S1x1, .f32⟩
  | .local _ .vmem, ⟨8, _⟩ => ⟨S8x128, .f32⟩
  | _, _ => ⟨S1000000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v385 : BitVec 1 := Scalar.cmpi .eq arg0 c49_i32
  let v386 : BitVec 32 := Scalar.extui v385
  let c0_i32_187 : BitVec 32 := 0#32
  let v387 : BitVec 1 := Scalar.cmpi .ne v386 c0_i32_187
  v387

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x125 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1000000x100 : Shape := ⟨2, ![1000000, 100]⟩
abbrev S1000000 : Shape := ⟨1, ![1000000]⟩
abbrev S11 : Shape := ⟨1, ![11]⟩
abbrev S_ : Shape := ⟨0, ![]⟩
abbrev S1000000x1 : Shape := ⟨2, ![1000000, 1]⟩
abbrev S10 : Shape := ⟨1, ![10]⟩
abbrev S1x1000000 : Shape := ⟨2, ![1, 1000000]⟩
abbrev S10x1 : Shape := ⟨2, ![10, 1]⟩
abbrev S10x1000000 : Shape := ⟨2, ![10, 1000000]⟩

abbrev nBuf : Space → Nat
  | .hbm => 78
  | .vmem => 0
  | .smem => 0
  | _ => 0

abbrev bufTy : (tb : Table) → Fin (tcTables nBuf tb) → BufTy
  | .hbm, ⟨0, _⟩ => ⟨S1000000x100, .f32⟩
  | .hbm, ⟨1, _⟩ => ⟨S1000000, .i32⟩
  | .hbm, ⟨2, _⟩ => ⟨S11, .f32⟩
  | .hbm, ⟨3, _⟩ => ⟨S_, .f32⟩
  | .hbm, ⟨4, _⟩ => ⟨S1000000, .f32⟩
  | .hbm, ⟨5, _⟩ => ⟨S_, .f32⟩
  | .hbm, ⟨6, _⟩ => ⟨S1000000, .f32⟩
  | .hbm, ⟨7, _⟩ => ⟨S1000000, .f32⟩
  | .hbm, ⟨8, _⟩ => ⟨S1000000x1, .f32⟩
  | .hbm, ⟨9, _⟩ => ⟨S1000000x100, .f32⟩
  | .hbm, ⟨10, _⟩ => ⟨S1000000x100, .f32⟩
  | .hbm, ⟨11, _⟩ => ⟨S1000000x100, .f32⟩
  | .hbm, ⟨12, _⟩ => ⟨S_, .f32⟩
  | .hbm, ⟨13, _⟩ => ⟨S1000000, .f32⟩
  | .hbm, ⟨14, _⟩ => ⟨S1000000x1, .f32⟩
  | .hbm, ⟨15, _⟩ => ⟨S1000000x100, .f32⟩
  | .hbm, ⟨16, _⟩ => ⟨S1000000x100, .f32⟩
  | .hbm, ⟨17, _⟩ => ⟨S_, .f32⟩
  | .hbm, ⟨18, _⟩ => ⟨S1000000, .f32⟩
  | .hbm, ⟨19, _⟩ => ⟨S1000000x100, .i32⟩
  | .hbm, ⟨20, _⟩ => ⟨S_, .f32⟩
  | .hbm, ⟨21, _⟩ => ⟨S_, .i32⟩
  | .hbm, ⟨22, _⟩ => ⟨S1000000, .f32⟩
  | .hbm, ⟨23, _⟩ => ⟨S1000000, .i32⟩
  | .hbm, ⟨24, _⟩ => ⟨S1000000, .i1⟩
  | .hbm, ⟨25, _⟩ => ⟨S1000000, .f32⟩
  | .hbm, ⟨26, _⟩ => ⟨S10, .f32⟩
  | .hbm, ⟨27, _⟩ => ⟨S10, .f32⟩
  | .hbm, ⟨28, _⟩ => ⟨S1x1000000, .f32⟩
  | .hbm, ⟨29, _⟩ => ⟨S10x1, .f32⟩
  | .hbm, ⟨30, _⟩ => ⟨S10x1000000, .f32⟩
  | .hbm, ⟨31, _⟩ => ⟨S10x1000000, .f32⟩
  | .hbm, ⟨32, _⟩ => ⟨S10x1000000, .i1⟩
  | .hbm, ⟨33, _⟩ => ⟨S1x1000000, .f32⟩
  | .hbm, ⟨34, _⟩ => ⟨S10x1, .f32⟩
  | .hbm, ⟨35, _⟩ => ⟨S10x1000000, .f32⟩
  | .hbm, ⟨36, _⟩ => ⟨S10x1000000, .f32⟩
  | .hbm, ⟨37, _⟩ => ⟨S10x1000000, .i1⟩
  | .hbm, ⟨38, _⟩ => ⟨S10x1000000, .i1⟩
  | .hbm, ⟨39, _⟩ => ⟨S10x1000000, .f32⟩
  | .hbm, ⟨40, _⟩ => ⟨S_, .f32⟩
  | .hbm, ⟨41, _⟩ => ⟨S10, .f32⟩
  | .hbm, ⟨42, _⟩ => ⟨S_, .f32⟩
  | .hbm, ⟨43, _⟩ => ⟨S10, .f32⟩
  | .hbm, ⟨44, _⟩ => ⟨S10, .f32⟩
  | .hbm, ⟨45, _⟩ => ⟨S_, .f32⟩
  | .hbm, ⟨46, _⟩ => ⟨S10, .f32⟩
  | .hbm, ⟨47, _⟩ => ⟨S10, .f32⟩
  | .hbm, ⟨48, _⟩ => ⟨S1x1000000, .f32⟩
  | .hbm, ⟨49, _⟩ => ⟨S10x1000000, .f32⟩
  | .hbm, ⟨50, _⟩ => ⟨S10x1000000, .f32⟩
  | .hbm, ⟨51, _⟩ => ⟨S_, .f32⟩
  | .hbm, ⟨52, _⟩ => ⟨S10, .f32⟩
  | .hbm, ⟨53, _⟩ => ⟨S10, .f32⟩
  | .hbm, ⟨54, _⟩ => ⟨S1x1000000, .f32⟩
  | .hbm, ⟨55, _⟩ => ⟨S10x1000000, .f32⟩
  | .hbm, ⟨56, _⟩ => ⟨S10x1000000, .f32⟩
  | .hbm, ⟨57, _⟩ => ⟨S_, .f32⟩
  | .hbm, ⟨58, _⟩ => ⟨S10, .f32⟩
  | .hbm, ⟨59, _⟩ => ⟨S10, .f32⟩
  | .hbm, ⟨60, _⟩ => ⟨S10, .f32⟩
  | .hbm, ⟨61, _⟩ => ⟨S10, .f32⟩
  | .hbm, ⟨62, _⟩ => ⟨S_, .f32⟩
  | .hbm, ⟨63, _⟩ => ⟨S10, .f32⟩
  | .hbm, ⟨64, _⟩ => ⟨S10, .i1⟩
  | .hbm, ⟨65, _⟩ => ⟨S10, .f32⟩
  | .hbm, ⟨66, _⟩ => ⟨S_, .f32⟩
  | .hbm, ⟨67, _⟩ => ⟨S_, .f32⟩
  | .hbm, ⟨68, _⟩ => ⟨S10, .f32⟩
  | .hbm, ⟨69, _⟩ => ⟨S10, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S10, .f32⟩
  | .hbm, ⟨75, _⟩ => ⟨S10, .f32⟩
  | .hbm, ⟨76, _⟩ => ⟨S_, .f32⟩
  | .hbm, ⟨77, _⟩ => ⟨S_, .f32⟩
  | _, _ => ⟨S1000000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_call1_v0 : Ref sig .tc := ⟨.hbm, 67, rfl⟩
abbrev main_call1_v1 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_cst_12 : Ref sig .tc := ⟨.hbm, 72, rfl⟩
abbrev main_call2_v0 : Ref sig .tc := ⟨.hbm, 73, rfl⟩
abbrev main_call2_v1 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩

abbrev nD : Nat := 1
abbrev τ : Topo := Topo.v7x

variable {F : FTy → Type} [FloatOps F]
-- ==== Proof.KernelRows.lean ====
/- What the kernel's body leaves in its scratch and in its two outputs at a grid point, as named functions of the
   point's blocks and of the three rows of the scratch it works on. -/
module

public import proofs.«01_k».proof.Proof.Gen.KernelIdeal.Frame
public import Idealize.ShloMosaic.Lib.Pipeline.Value
public import Idealize.ShloMosaic.Lib.Pipeline.ValueKit.Tiles
public import Idealize.ShloMosaic.Lib.Pipeline.RowLoads
public import Idealize.ShloMosaic.Lib.WritesUnit
public import Idealize.ShloMosaic.Lib.ValueIdxCore
public import Idealize.ShloMosaic.Lib.Tactic

@[expose] public section

set_option maxRecDepth 16000

noncomputable section

namespace Cert.KernelIdeal.Value

open Cert.KernelIdeal Cert.KernelIdeal.Gen Idealize.ShloMosaic Idealize.ShloMosaic.TcCoe Idealize.SL.Sem
open Idealize.ShloMosaic.ValueIdx (ix2)

variable {F : FTy → Type} [FloatOps F]

/-! ## The step -/

/-- The labels of the `n`-th group of 125 rows, turned from a row into a column. -/
def piece (x4 : Vec F S160x125 .f32) (n : Fin 160) : FVec F S125x1 .f32 :=
  matmul dot_S125x125_S1x125_S125x1_1_1_0_0_n_n none k0_pay13
    (extractStridedSlice S1x125 ![n.val, 0] (k0_pay14 x4) ⟨rfl, fun a => by
      have := n.isLt; fin_cases a <;> simp <;> omega⟩) (constant S125x1 .f32 0x00000000#32)

/-- 160 groups of 125 rows lie one under the other in a column of 20000. -/
theorem groups {f : Fin 160 → Shape} (h : f = fun _ => S125x1 := by rfl) : Shape.Concatenates (List.ofFn f) S20000x1 0 := by
  rw [h, List.ofFn_const]; decide

/-- The labels of a block's rows, as a column. -/
def labels (x4 : Vec F S160x125 .f32) : FVec F S20000x1 .f32 :=
  concatenate S20000x1 0 (List.ofFn fun n => (⟨S125x1, piece x4 n⟩ : (s : Shape) × (s.Idx → F .f32))) (by
    rw [List.map_ofFn]; exact groups)

/-- One for each row of a block whose label's column holds the row's largest entry. -/
def hits (x3 : Vec F S20000x100 .f32) (x4 : Vec F S160x125 .f32) : FVec F S20000x1 .f32 :=
  matmul dot_S20000x100_S100x1_S20000x1_1_0_0_1_n_n none
    (sitofp .f32 (extui 32 (andi (cmpf .oeq x3 (broadcastTo S20000x100 (k0_pay11 x3) broadcasts_S20000x1_S20000x100))
      (cmpf .oeq (broadcastTo S20000x100 (shapeCast S1x100 (sitofp .f32 (iota .tc S1x100 32 [1] iota_S1x100_d1_w32)) shapeCasts_S1x100_S1x100)
        broadcasts_S1x100_S20000x100) (broadcastTo S20000x100 (labels x4) broadcasts_S20000x1_S20000x100))) natLt_1_32))
    k0_pay10 (constant S20000x1 .f32 0x00000000#32)

/-- The count row after a point. -/
def step0 (x1 x2 : Vec F S1x128 .f32) (x3 : Vec F S20000x100 .f32) (s : Vec F S1x128 .f32) : Vec F S1x128 .f32 :=
  k0_pay2 (k0_pay170 x1 (k0_pay12 x3)) (k0_pay171 (k0_pay12 x3)) (k0_pay172 x2) s

/-- The confidence row after a point. -/
def step1 (x1 x2 : Vec F S1x128 .f32) (x3 : Vec F S20000x100 .f32) (s : Vec F S1x128 .f32) : Vec F S1x128 .f32 :=
  k0_pay3 (k0_pay12 x3) (k0_pay170 x1 (k0_pay12 x3)) (k0_pay171 (k0_pay12 x3)) (k0_pay172 x2) s

/-- The row of hits after a point. -/
def step2 (x1 x2 : Vec F S1x128 .f32) (x3 : Vec F S20000x100 .f32) (x4 : Vec F S160x125 .f32) (s : Vec F S1x128 .f32) : Vec F S1x128 .f32 :=
  k0_pay4 (hits x3 x4) (k0_pay170 x1 (k0_pay12 x3)) (k0_pay171 (k0_pay12 x3)) (k0_pay172 x2) s

/-! ## The rows of the scratch -/

/-- A row of the scratch. -/
def rowOf (k : Fin 8) (s : Vec F S8x128 .f32) : Vec F S1x128 .f32 := fun j => s (ix2 k (j 1))

theorem zeros : (![0, 0] : Fin 2 → Nat) = fun _ => 0 := funext fun a => by fin_cases a <;> rfl

/-- A load of one row is that row. -/
theorem ld_row (k : Fin 8) (s : Vec F S8x128 .f32) (inb : ∀ a, (![k.val, 0] : Fin 2 → Nat) a + S1x128.size a ≤ S8x128.size a) :
    View.ld s (Rect.unit (s := S8x128) ![k.val, 0] S1x128.size inb) = rowOf k s := by
  funext j
  refine View.ld_unit_apply_of s _ _ inb j _ fun a => ?_
  have h0 : (j 0).val = 0 := by have := (j 0).isLt; change (j 0).val < 1 at this; omega
  fin_cases a
  · exact (congrArg (k.val + ·) h0).symm
  · exact (Nat.zero_add _).symm

/-- A load of one row of a scratch stored whole is that row of what was stored. -/
theorem cov_whole {sig : RefSig} {κ : Kind} {sp : Space} (v : View sig κ sp S8x128 .f32) (p : Vec F S8x128 .f32) (k : Fin 8)
    (inbW : ∀ a, (![0, 0] : Fin 2 → Nat) a + S8x128.size a ≤ S8x128.size a)
    (inb : ∀ a, (![k.val, 0] : Fin 2 → Nat) a + S1x128.size a ≤ S8x128.size a) :
    v.readCov [(⟨Rect.unit (s := S8x128) ![0, 0] S8x128.size inbW, p⟩ : View.Piece (Elt F) S8x128 .f32)]
      (Rect.unit (s := S8x128) ![k.val, 0] S1x128.size inb).toLoadRect = rowOf k p := by
  rw [View.readCov_eq_canon', View.canon_unit_zero zeros]
  exact ld_row k p inb

section Writes
variable {sig : RefSig} {κ : Kind} {sp : Space} (v : View sig κ sp S8x128 .f32) (f : v.ty.Contents (Elt F)) (p : Fin 3 → Vec F S1x128 .f32)
  (L : List (View.Piece (Elt F) S8x128 .f32))
  (i0 : ∀ a, (![0, 0] : Fin 2 → Nat) a + S1x128.size a ≤ S8x128.size a)
  (i1 : ∀ a, (![1, 0] : Fin 2 → Nat) a + S1x128.size a ≤ S8x128.size a)
  (i2 : ∀ a, (![2, 0] : Fin 2 → Nat) a + S1x128.size a ≤ S8x128.size a)

/-- The three rows written last read back what was written to them. -/
theorem rows3 (p0 p1 p2 : Vec F S1x128 .f32) (k : Fin 3) :
    rowOf (F := F) (k.castLE (by decide)) (v.read (Elt F) (v.writes (Elt F) f
      (⟨Rect.unit (s := S8x128) ![2, 0] S1x128.size i2, p2⟩ :: ⟨Rect.unit (s := S8x128) ![1, 0] S1x128.size i1, p1⟩
        :: ⟨Rect.unit (s := S8x128) ![0, 0] S1x128.size i0, p0⟩ :: L))) = (![p0, p1, p2] : Fin 3 → Vec F S1x128 .f32) k := by
  funext j
  have h0 : (j 0).val = 0 := by have := (j 0).isLt; change (j 0).val < 1 at this; omega
  unfold rowOf
  fin_cases k
  · exact (View.read_writes_cons_rows_of_not_mem v f i2 p2 _ _ rfl rfl (.inl (by decide : (0 : Nat) < 2))).trans
      ((View.read_writes_cons_rows_of_not_mem v f i1 p1 _ _ rfl rfl (.inl (by decide : (0 : Nat) < 1))).trans
        (View.read_writes_cons_rows_of_mem v f i0 p0 _ _ j rfl (congrArg (0 + ·) h0).symm rfl))
  · exact (View.read_writes_cons_rows_of_not_mem v f i2 p2 _ _ rfl rfl (.inl (by decide : (1 : Nat) < 2))).trans
      (View.read_writes_cons_rows_of_mem v f i1 p1 _ _ j rfl (congrArg (1 + ·) h0).symm rfl)
  · exact View.read_writes_cons_rows_of_mem v f i2 p2 _ _ j rfl (congrArg (2 + ·) h0).symm rfl

end Writes

/-! ## The cases -/

section Cases
variable (c : Dev nD) (i : grid0.Coords) (a1 : Memref sig .tc .vmem S1x128 .f32) (h1 : a1.IsWhole) (a2 : Memref sig .tc .vmem S1x128 .f32) (h2 : a2.IsWhole)
    (a3 : Memref sig .tc .vmem S20000x100 .f32) (h3 : a3.IsWhole) (a4 : Memref sig .tc .vmem S160x125 .f32) (h4 : a4.IsWhole)
    (a5 : Memref sig .tc .vmem S1x1 .f32) (h5 : a5.IsWhole) (a6 : Memref sig .tc .vmem S1x1 .f32) (h6 : a6.IsWhole) (a7 : Memref sig .tc .vmem S8x128 .f32) (h7 : a7.IsWhole)

/-- A middle point: each of the three rows takes its step. -/
theorem rows_B (hc0 : ¬cond0_0 i) (hc1 : ¬cond0_1 i) (x1 x2 : Vec F S1x128 .f32) (x3 : Vec F S20000x100 .f32) (x4 : Vec F S160x125 .f32)
    (s : Vec F S8x128 .f32) (k : Fin 3) :
    rowOf (k.castLE (by decide)) (sout0_B_0 c i a1 h1 a2 h2 a3 h3 a4 h4 a5 h5 a6 h6 a7 h7 hc0 hc1 x1 x2 x3 x4 s)
      = (![step0 x1 x2 x3 (rowOf 0 s), step1 x1 x2 x3 (rowOf 1 s), step2 x1 x2 x3 x4 (rowOf 2 s)] : Fin 3 → Vec F S1x128 .f32) k := by
  unfold sout0_B_0
  unfold kernelRun0_B
  dsimp only
  sl_unfold_words
  simp only [View.readAt_eq_ld, h1.read_unread, h2.read_unread, h3.read_unread, h4.read_unread, h7.read_unread, View.ld_unit_zero (S := S1x128) zeros,
    View.ld_unit_zero (S := S20000x100) zeros, View.ld_unit_zero (S := S160x125) zeros, shapeCast_self]
  refine (rows3 _ _ _ _ _ _ _ _ _ k).trans ?_
  fin_cases k
  · exact congrArg (k0_pay2 _ _ _) (ld_row 0 s _)
  · exact congrArg (k0_pay3 _ _ _ _) (ld_row 1 s _)
  · exact congrArg (k0_pay4 _ _ _ _) (ld_row 2 s _)

/-- The first point: each of the three rows takes its step from zero. -/
theorem rows_A (hc0 : cond0_0 i) (hc1 : ¬cond0_1 i) (x1 x2 : Vec F S1x128 .f32) (x3 : Vec F S20000x100 .f32) (x4 : Vec F S160x125 .f32)
    (k : Fin 3) :
    rowOf (k.castLE (by decide)) (sout0_A_0 c i a1 h1 a2 h2 a3 h3 a4 h4 a5 h5 a6 h6 a7 h7 hc0 hc1 x1 x2 x3 x4)
      = (![step0 x1 x2 x3 (rowOf 0 k0_pay9), step1 x1 x2 x3 (rowOf 1 k0_pay9), step2 x1 x2 x3 x4 (rowOf 2 k0_pay9)] : Fin 3 → Vec F S1x128 .f32) k := by
  unfold sout0_A_0
  unfold kernelRun0_A
  dsimp only
  sl_unfold_words
  simp only [View.readAt_eq_ld, h1.read_unread, h2.read_unread, h3.read_unread, h4.read_unread, View.ld_unit_zero (S := S1x128) zeros,
    View.ld_unit_zero (S := S20000x100) zeros, View.ld_unit_zero (S := S160x125) zeros, shapeCast_self]
  refine (rows3 _ _ _ _ _ _ _ _ _ k).trans ?_
  fin_cases k
  · exact congrArg (k0_pay2 _ _ _) (cov_whole _ _ 0 _ _)
  · exact congrArg (k0_pay3 _ _ _ _) ((View.readCov_cons_of_rows_disjoint _ 0 1 (.inl (by decide)) _ _ _ _).trans (cov_whole _ _ 1 _ _))
  · exact congrArg (k0_pay4 _ _ _ _) ((View.readCov_cons_of_rows_disjoint _ 1 2 (.inl (by decide)) _ _ _ _).trans
      ((View.readCov_cons_of_rows_disjoint _ 0 2 (.inl (by decide)) _ _ _ _).trans (cov_whole _ _ 2 _ _)))

/-- The last point's first output: the expected error of the three rows after their steps. -/
theorem out_C_4 (hc0 : ¬cond0_0 i) (hc1 : cond0_1 i) (x1 x2 : Vec F S1x128 .f32) (x3 : Vec F S20000x100 .f32) (x4 : Vec F S160x125 .f32)
    (s : Vec F S8x128 .f32) :
    out0_C_4 c i a1 h1 a2 h2 a3 h3 a4 h4 a5 h5 a6 h6 a7 h7 hc0 hc1 x1 x2 x3 x4 s
      = k0_pay7 (step0 x1 x2 x3 (rowOf 0 s)) (step1 x1 x2 x3 (rowOf 1 s)) (step2 x1 x2 x3 x4 (rowOf 2 s)) := by
  unfold out0_C_4
  rw [View.read_writes_eq_canon _ _ _ (cover0_C_4 c i a1 h1 a2 h2 a3 h3 a4 h4 a5 h5 a6 h6 a7 h7 hc0 hc1 x1 x2 x3 x4 s)]
  unfold kernelRun0_C
  dsimp only
  sl_unfold_words
  rw [View.canon_unit_zero zeros]
  simp only [View.readAt_eq_ld, h1.read_unread, h2.read_unread, h3.read_unread, h4.read_unread, h7.read_unread, View.ld_unit_zero (S := S1x128) zeros,
    View.ld_unit_zero (S := S20000x100) zeros, View.ld_unit_zero (S := S160x125) zeros, shapeCast_self]
  refine congr (congr (congrArg k0_pay7 ?_) ?_) ?_
  · exact ((ld_row 0 _ _).trans (rows3 _ _ _ _ _ _ _ _ _ 0)).trans (congrArg (k0_pay2 _ _ _) (ld_row 0 s _))
  · exact ((ld_row 1 _ _).trans (rows3 _ _ _ _ _ _ _ _ _ 1)).trans (congrArg (k0_pay3 _ _ _ _) (ld_row 1 s _))
  · exact ((ld_row 2 _ _).trans (rows3 _ _ _ _ _ _ _ _ _ 2)).trans (congrArg (k0_pay4 _ _ _ _) (ld_row 2 s _))

/-- The last point's second output: the maximum error of the three rows after their steps. -/
theorem out_C_5 (hc0 : ¬cond0_0 i) (hc1 : cond0_1 i) (x1 x2 : Vec F S1x128 .f32) (x3 : Vec F S20000x100 .f32) (x4 : Vec F S160x125 .f32)
    (s : Vec F S8x128 .f32) :
    out0_C_5 c i a1 h1 a2 h2 a3 h3 a4 h4 a5 h5 a6 h6 a7 h7 hc0 hc1 x1 x2 x3 x4 s
      = k0_pay8 (step0 x1 x2 x3 (rowOf 0 s)) (step1 x1 x2 x3 (rowOf 1 s)) (step2 x1 x2 x3 x4 (rowOf 2 s)) := by
  unfold out0_C_5
  rw [View.read_writes_eq_canon _ _ _ (cover0_C_5 c i a1 h1 a2 h2 a3 h3 a4 h4 a5 h5 a6 h6 a7 h7 hc0 hc1 x1 x2 x3 x4 s)]
  unfold kernelRun0_C
  dsimp only
  sl_unfold_words
  rw [View.canon_unit_zero zeros]
  simp only [View.readAt_eq_ld, h1.read_unread, h2.read_unread, h3.read_unread, h4.read_unread, h7.read_unread, View.ld_unit_zero (S := S1x128) zeros,
    View.ld_unit_zero (S := S20000x100) zeros, View.ld_unit_zero (S := S160x125) zeros, shapeCast_self]
  refine congr (congr (congrArg k0_pay8 ?_) ?_) ?_
  · exact ((ld_row 0 _ _).trans (rows3 _ _ _ _ _ _ _ _ _ 0)).trans (congrArg (k0_pay2 _ _ _) (ld_row 0 s _))
  · exact ((ld_row 1 _ _).trans (rows3 _ _ _ _ _ _ _ _ _ 1)).trans (congrArg (k0_pay3 _ _ _ _) (ld_row 1 s _))
  · exact ((ld_row 2 _ _).trans (rows3 _ _ _ _ _ _ _ _ _ 2)).trans (congrArg (k0_pay4 _ _ _ _) (ld_row 2 s _))

end Cases

end Cert.KernelIdeal.Value
-- ==== Proof.KernelRun.lean ====
/- The kernel's run: the three rows of the scratch after each grid point, the two outputs they give at the last, and the
   statement that every execution ends with the two results at those outputs. -/
module

public import proofs.«01_k».proof.Proof.KernelRows
public import Idealize.ShloMosaic.Lib.StableHlo.Run

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)
open Idealize.ShloMosaic.ValueIdx (ix2)

variable {F : FTy → Type} [FloatOps F]
variable (m : (ℓ : Loc nD τ sig) → Buf (Elt F) ℓ) (ρ : Dev nD → PrngReg)

/-! ## The rows after each point -/

/-- The three rows after a point with blocks `x1 … x4`, from the rows before it. -/
def next (x1 x2 : Vec F S1x128 .f32) (x3 : Vec F S20000x100 .f32) (x4 : Vec F S160x125 .f32) (s : Fin 3 → Vec F S1x128 .f32) :
    Fin 3 → Vec F S1x128 .f32 :=
  ![step0 x1 x2 x3 (s 0), step1 x1 x2 x3 (s 1), step2 x1 x2 x3 x4 (s 2)]

/-- The three rows before the first point: zero. -/
def start : Fin 3 → Vec F S1x128 .f32 := fun k => rowOf (k.castLE (by decide)) k0_pay9

/-- The three rows after point `n`. -/
def rows (c : Dev nD) : (n : Nat) → n < cfg0.N → Fin 3 → Vec F S1x128 .f32
  | 0, h => next (iblk m c 0 ⟨0, h⟩) (iblk m c 1 ⟨0, h⟩) (iblk m c 2 ⟨0, h⟩) (iblk m c 3 ⟨0, h⟩) start
  | n + 1, h => next (iblk m c 0 ⟨n + 1, h⟩) (iblk m c 1 ⟨n + 1, h⟩) (iblk m c 2 ⟨n + 1, h⟩) (iblk m c 3 ⟨n + 1, h⟩)
      (rows c n (Nat.lt_of_succ_lt h))

/-- Before the last point the scratch holds these rows. -/
theorem scratch_rows (c : Dev nD) : ∀ (n : Nat) (h : n < cfg0.N), n < 49 → ∀ k : Fin 3,
    rowOf (k.castLE (by decide)) (outsAt0 m c n h).2.2 = rows m c n h k
  | 0, h, _, k => by
    rw [outsAt0_A m c ⟨0, h⟩  (by rfl) (by show ¬0 % 50 = 49; decide)]
    dsimp only
    exact rows_A (F := F) _ _ _ _ _ _ _ _ _ _ _ _ _ _ _ _ _ _ _ _ _ _ k
  | n + 1, h, hn, k => by
    rw [outsAt0_B m c ⟨n + 1, h⟩ (by show ¬(n + 1) % 50 = 0; omega) (by show ¬(n + 1) % 50 = 49; omega)]
    dsimp only
    refine (rows_B (F := F) _ _ _ _ _ _ _ _ _ _ _ _ _ _ _ _ _ _ _ _ _ _ _ k).trans ?_
    have ih := scratch_rows c n (Nat.lt_of_succ_lt h) (by omega)
    have e0 := ih 0; have e1 := ih 1; have e2 := ih 2
    unfold rows next
    rw [← e0, ← e1, ← e2]
    rfl

/-- The last point. -/
abbrev lastPt : Fin cfg0.N := ⟨49, by rw [show cfg0.N = 50 from N_0]; decide⟩

/-- The rows the last point works out. -/
abbrev total (c : Dev nD) : Fin 3 → Vec F S1x128 .f32 := rows m c 49 lastPt.isLt

/-- The first output after the last point. -/
theorem last_4 (c : Dev nD) : (outsAt0 m c 49 lastPt.isLt).1 = k0_pay7 (total m c 0) (total m c 1) (total m c 2) := by
  rw [outsAt0_C m c lastPt (by show ¬49 % 50 = 0; decide) (by show 49 % 50 = 49; decide)]
  dsimp only
  refine (out_C_4 (F := F) _ _ _ _ _ _ _ _ _ _ _ _ _ _ _ _ _ _ _ _ _ _ _).trans ?_
  have ih := scratch_rows m c 48 (Nat.lt_of_succ_lt lastPt.isLt) (by decide)
  have e0 := ih 0; have e1 := ih 1; have e2 := ih 2
  unfold total rows next
  rw [← e0, ← e1, ← e2]
  rfl

/-- The second output after the last point. -/
theorem last_5 (c : Dev nD) : (outsAt0 m c 49 lastPt.isLt).2.1 = k0_pay8 (total m c 0) (total m c 1) (total m c 2) := by
  rw [outsAt0_C m c lastPt (by show ¬49 % 50 = 0; decide) (by show 49 % 50 = 49; decide)]
  dsimp only
  refine (out_C_5 (F := F) _ _ _ _ _ _ _ _ _ _ _ _ _ _ _ _ _ _ _ _ _ _ _).trans ?_
  have ih := scratch_rows m c 48 (Nat.lt_of_succ_lt lastPt.isLt) (by decide)
  have e0 := ih 0; have e1 := ih 1; have e2 := ih 2
  unfold total rows next
  rw [← e0, ← e1, ← e2]
  rfl

/-! ## The two arrays after the run -/

/-- A write-back happens at the last point only. -/
theorem last_of (t : Fin cfg0.N) (h : t.val % 50 = 49) : t = lastPt := by
  have hN : cfg0.N = 50 := N_0
  have := t.isLt
  exact Fin.ext (by show t.val = 49; omega)

/-- The first output's array ends holding the last point's first output. -/
theorem final_4 (c : Dev nD) : (dats m 0 c).arrAt 4 cfg0.N = k0_pay7 (total m c 0) (total m c 1) (total m c 2) :=
  (dats m 0 c).arrAt_eq_of_cover 4 (k0_pay7 (total m c 0) (total m c 1) (total m c 2)) (fun t hf => by
    obtain rfl := last_of t ((flush0_4 t).mp hf)
    show (cfg0.win 4).cut (grid0.coords lastPt) ((dats m 0 c).after 4 lastPt) = _
    rw [after0_4, last_4]
    have hz' : (fun a => win0_4.index lastPt a * main_v2_0.ty.shape.size a) = fun _ => 0 := funext fun a => by fin_cases a <;> decide
    exact (Memref.read_access_unit_zero (Elt F) main_v2_0 hz' (fun a => by rw [congrFun hz' a]; simp) _).symm) fun i =>
    ⟨lastPt, (flush0_4 lastPt).mpr rfl, by
      show i ∈ ((View.whole main_v2_0).slice (win0_4.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_4.index lastPt 0 * win0_4.size 0 ≤ (i 0 : Nat) ∧ (i 0 : Nat) < win0_4.index lastPt 0 * win0_4.size 0 + win0_4.xsize (grid0.coords lastPt) 0
                  rw [show win0_4.index lastPt 0 * win0_4.size 0 = 0 from by decide +kernel, show win0_4.xsize (grid0.coords lastPt) 0 = 1 from by decide +kernel]; omega
      | ⟨1, _⟩ => show win0_4.index lastPt 1 * win0_4.size 1 ≤ (i 1 : Nat) ∧ (i 1 : Nat) < win0_4.index lastPt 1 * win0_4.size 1 + win0_4.xsize (grid0.coords lastPt) 1
                  rw [show win0_4.index lastPt 1 * win0_4.size 1 = 0 from by decide +kernel, show win0_4.xsize (grid0.coords lastPt) 1 = 1 from by decide +kernel]; omega⟩

/-- The second output's array ends holding the last point's second output. -/
theorem final_5 (c : Dev nD) : (dats m 0 c).arrAt 5 cfg0.N = k0_pay8 (total m c 0) (total m c 1) (total m c 2) :=
  (dats m 0 c).arrAt_eq_of_cover 5 (k0_pay8 (total m c 0) (total m c 1) (total m c 2)) (fun t hf => by
    obtain rfl := last_of t ((flush0_5 t).mp hf)
    show (cfg0.win 5).cut (grid0.coords lastPt) ((dats m 0 c).after 5 lastPt) = _
    rw [after0_5, last_5]
    have hz' : (fun a => win0_5.index lastPt a * main_v2_1.ty.shape.size a) = fun _ => 0 := funext fun a => by fin_cases a <;> decide
    exact (Memref.read_access_unit_zero (Elt F) main_v2_1 hz' (fun a => by rw [congrFun hz' a]; simp) _).symm) fun i =>
    ⟨lastPt, (flush0_5 lastPt).mpr rfl, by
      show i ∈ ((View.whole main_v2_1).slice (win0_5.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_5.index lastPt 0 * win0_5.size 0 ≤ (i 0 : Nat) ∧ (i 0 : Nat) < win0_5.index lastPt 0 * win0_5.size 0 + win0_5.xsize (grid0.coords lastPt) 0
                  rw [show win0_5.index lastPt 0 * win0_5.size 0 = 0 from by decide +kernel, show win0_5.xsize (grid0.coords lastPt) 0 = 1 from by decide +kernel]; omega
      | ⟨1, _⟩ => show win0_5.index lastPt 1 * win0_5.size 1 ≤ (i 1 : Nat) ∧ (i 1 : Nat) < win0_5.index lastPt 1 * win0_5.size 1 + win0_5.xsize (grid0.coords lastPt) 1
                  rw [show win0_5.index lastPt 1 * win0_5.size 1 = 0 from by decide +kernel, show win0_5.xsize (grid0.coords lastPt) 1 = 1 from by decide +kernel]; omega⟩

/-! ## The results -/

/-- The expected error the kernel returns. -/
def ece (c : Dev nD) : Vec F S_ .f32 := shapeCast S_ (k0_pay7 (total m c 0) (total m c 1) (total m c 2)) shapeCasts_S1x1_S_

/-- The maximum error the kernel returns. -/
def mce (c : Dev nD) : Vec F S_ .f32 := shapeCast S_ (k0_pay8 (total m c 0) (total m c 1) (total m c 2)) shapeCasts_S1x1_S_

/-- After the tail the first result holds the first array, reshaped. -/
theorem tail_3 (c : Dev nD) : Pipeline.afterTail₀ cfgs (dats m) 0 (V0 m) [hostOps1] c main_v3 = ece m c := by
  unfold Pipeline.afterTail₀ ece
  have e : Pipeline.withArrays (cfgs 0).spec c (V0 m c) (fun w => (dats m 0 c).arrAt w (cfgs 0).N) (Proc.devRef .tc main_v2_0)
      = k0_pay7 (total m c 0) (total m c 1) (total m c 2) :=
    (Pipeline.withArrays_arr (cfgs 0).spec (by decide) c (V0 m c) _ 4).trans (final_4 m c)
  simp only [List.flatten_cons, List.flatten_nil, List.append_nil]
  generalize Pipeline.withArrays (cfgs 0).spec c (V0 m c) (fun w => (dats m 0 c).arrAt w (cfgs 0).N) = W at e
  simp only [hostOps1]
  after_results_simp
  rw [e]
  rfl

/-- After the tail the second result holds the second array, reshaped. -/
theorem tail_4 (c : Dev nD) : Pipeline.afterTail₀ cfgs (dats m) 0 (V0 m) [hostOps1] c main_v4 = mce m c := by
  unfold Pipeline.afterTail₀ mce
  have e : Pipeline.withArrays (cfgs 0).spec c (V0 m c) (fun w => (dats m 0 c).arrAt w (cfgs 0).N) (Proc.devRef .tc main_v2_1)
      = k0_pay8 (total m c 0) (total m c 1) (total m c 2) :=
    (Pipeline.withArrays_arr (cfgs 0).spec (by decide) c (V0 m c) _ 5).trans (final_5 m c)
  simp only [List.flatten_cons, List.flatten_nil, List.append_nil]
  generalize Pipeline.withArrays (cfgs 0).spec c (V0 m c) (fun w => (dats m 0 c).arrAt w (cfgs 0).N) = W at e
  simp only [hostOps1]
  after_results_simp
  rw [e]
  rfl

/-- Every execution of the kernel ends with its two results at `ece` and `mce` and its arguments unchanged. -/
theorem run : θ_run defs (onTc (τ := τ) (main (F := F))) ⟨m, fun _ => 0, ρ⟩ fun r => ∀ c : Dev nD,
      r.2.mem ((c : Thread nD τ).loc main_v3) = ece m c
      ∧ r.2.mem ((c : Thread nD τ).loc main_v4) = mce m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans (tail_3 m c),
      ((h c).2 main_v4 (Pipeline.mem_restRefs_of main_v4 (by decide) (by decide))).trans (tail_4 m c),
      ((h c).1 2).trans (((dats m 0 c).arrAt_in 2 rfl _).trans ((A_eq m c 2).trans (V_main_arg0 m c))),
      ((h c).2 main_arg1 (Pipeline.mem_restRefs_of main_arg1 (by decide) (by decide))).trans (W_main_arg1 m (dats m) c)⟩)
    (run_main m ρ)

end Cert.KernelIdeal.Value

end
-- ==== Proof.KernelBlocks.lean ====
/- The kernel's input blocks read at an index: a point's logits and labels are the argument's rows from `20000 t` on, and
   the two tables of bounds are the same at every point. -/
module

public import proofs.«01_k».proof.Proof.KernelRun
public import Idealize.ShloMosaic.Lib.Pointwise
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ) (c : Dev nD)

/-- The tables are at their start at every point. -/
theorem index_tables : ∀ t : Fin cfg0.N, (win0_0.index t 0 = 0 ∧ win0_0.index t 1 = 0)
    ∧ (win0_1.index t 0 = 0 ∧ win0_1.index t 1 = 0) := by decide +kernel

/-- Point `t` takes the `t`-th block of logits and of labels. -/
theorem index_rows : ∀ t : Fin cfg0.N, (win0_2.index t 0 = t.val ∧ win0_2.index t 1 = 0)
    ∧ (win0_3.index t 0 = t.val ∧ win0_3.index t 1 = 0) := by decide +kernel

/-- The table of lower bounds, as the region finds it. -/
theorem V_cst : V m c main_cst = fun i : S1x128.Idx => (Ideal.ofBits .f32 (lit0 (S1x128.rowMajor i)) : EReal) := by
  unfold V V0
  simp only [List.flatten_cons, List.flatten_nil, List.append_nil, hostOps0]
  after_results_simp
  rfl

/-- The table of upper bounds, as the region finds it. -/
theorem V_cst_0 : V m c main_cst_0 = fun i : S1x128.Idx => (Ideal.ofBits .f32 (lit1 (S1x128.rowMajor i)) : EReal) := by
  unfold V V0
  simp only [List.flatten_cons, List.flatten_nil, List.append_nil, hostOps0]
  after_results_simp
  rfl

/-- The labels, as the region finds them. -/
theorem V_v1 : V m c main_v1 = shapeCast S8000x125 (sitofp (F := Ideal) .f32 (m ((c : Thread nD τ).loc main_arg1) : IVec S1000000 32))
    shapeCasts_S1000000_S8000x125 := by
  unfold V V0
  simp only [List.flatten_cons, List.flatten_nil, List.append_nil, hostOps0]
  after_results_simp
  rfl

/-- A position of a row of lanes. -/
theorem lane_pos (l : Fin 128) : S1x128.rowMajor (ix2 0 l) = l :=
  Fin.ext (by rw [Shape.rowMajor_val_two]; show 0 * 128 + l.val = l.val; omega)

/-- A lane's lower bound. -/
theorem iblk_lo (t : Fin cfg0.N) (l : Fin 128) :
    (iblk m c 0 t : Vec Ideal S1x128 .f32) (ix2 0 l) = Ideal.ofBits .f32 (lit0 l) := by
  have hi := (index_tables t).1
  have e : (iblk m c 0 t : Vec Ideal S1x128 .f32) (ix2 0 l) = V m c main_cst (ix2 (n0 := 1) (n1 := 128) 0 l) := by
    unfold iblk
    rw [View.read_apply]
    show V m c main_cst _ = V m c main_cst _
    congr 1
    funext a
    apply Fin.ext
    match a with
    | ⟨0, _⟩ => show win0_0.index t 0 * 1 + 1 * 0 = 0; rw [hi.1]
    | ⟨1, _⟩ => show win0_0.index t 1 * 128 + 1 * l.val = l.val; rw [hi.2]; omega
  rw [e, V_cst]
  show Ideal.ofBits .f32 (lit0 (S1x128.rowMajor (ix2 0 l))) = _
  rw [lane_pos]

/-- A lane's upper bound. -/
theorem iblk_hi (t : Fin cfg0.N) (l : Fin 128) :
    (iblk m c 1 t : Vec Ideal S1x128 .f32) (ix2 0 l) = Ideal.ofBits .f32 (lit1 l) := by
  have hi := (index_tables t).2
  have e : (iblk m c 1 t : Vec Ideal S1x128 .f32) (ix2 0 l) = V m c main_cst_0 (ix2 (n0 := 1) (n1 := 128) 0 l) := by
    unfold iblk
    rw [View.read_apply]
    show V m c main_cst_0 _ = V m c main_cst_0 _
    congr 1
    funext a
    apply Fin.ext
    match a with
    | ⟨0, _⟩ => show win0_1.index t 0 * 1 + 1 * 0 = 0; rw [hi.1]
    | ⟨1, _⟩ => show win0_1.index t 1 * 128 + 1 * l.val = l.val; rw [hi.2]; omega
  rw [e, V_cst_0]
  show Ideal.ofBits .f32 (lit1 (S1x128.rowMajor (ix2 0 l))) = _
  rw [lane_pos]

/-- The row of the whole array that point `t` holds at its row `r`. -/
def row (t : Fin cfg0.N) (r : Fin 20000) : Fin 1000000 := ⟨20000 * t.val + r.val, by
  have hN : cfg0.N = 50 := N_0
  have := t.isLt
  omega⟩

/-- A point's logits. -/
theorem iblk_logits (t : Fin cfg0.N) (r : Fin 20000) (k : Fin 100) :
    (iblk m c 2 t : Vec Ideal S20000x100 .f32) (ix2 r k)
      = (m ((c : Thread nD τ).loc main_arg0) : FVec Ideal S1000000x100 .f32) (ix2 (row t r) k) := by
  have hi := (index_rows t).1
  unfold iblk
  rw [View.read_apply]
  show V m c main_arg0 _ = _
  rw [V_main_arg0]
  congr 1
  funext a
  apply Fin.ext
  match a with
  | ⟨0, _⟩ => show win0_2.index t 0 * 20000 + 1 * r.val = 20000 * t.val + r.val; rw [hi.1]; omega
  | ⟨1, _⟩ => show win0_2.index t 1 * 100 + 1 * k.val = k.val; rw [hi.2]; omega

/-- A vector laid out in rows reads, at a row and a column, its entry at the row-major position. -/
theorem cast_rows {α : Type} {n a b : Nat} (h : (⟨1, ![n]⟩ : Shape).ShapeCasts ⟨2, ![a, b]⟩) (v : (⟨1, ![n]⟩ : Shape).Idx → α)
    (i : Fin a) (j : Fin b) (k : Fin n) (hk : k.val = i.val * b + j.val) : shapeCast ⟨2, ![a, b]⟩ v h (ix2 i j) = v (ix1 k) :=
  shapeCast_apply v h _ _ (by rw [Shape.rowMajor_val_one, Shape.rowMajor_val_two]; exact hk)

/-- A point's labels, a row's at its row-major position. -/
theorem iblk_labels (t : Fin cfg0.N) (r : Fin 20000) :
    (iblk m c 3 t : Vec Ideal S160x125 .f32) (ix2 ⟨r.val / 125, by omega⟩ ⟨r.val % 125, by omega⟩)
      = ((((m ((c : Thread nD τ).loc main_arg1) : IVec S1000000 32) (ix1 (row t r))).toInt : ℝ) : EReal) := by
  have hi := (index_rows t).2
  have hN : cfg0.N = 50 := N_0
  have ht := t.isLt
  have e : (iblk m c 3 t : Vec Ideal S160x125 .f32) (ix2 ⟨r.val / 125, by omega⟩ ⟨r.val % 125, by omega⟩)
      = V m c main_v1 (ix2 (n0 := 8000) (n1 := 125) ⟨160 * t.val + r.val / 125, by omega⟩ ⟨r.val % 125, by omega⟩) := by
    unfold iblk
    rw [View.read_apply]
    show V m c main_v1 _ = V m c main_v1 _
    congr 1
    funext a
    apply Fin.ext
    match a with
    | ⟨0, _⟩ => show win0_3.index t 0 * 160 + 1 * (r.val / 125) = 160 * t.val + r.val / 125; rw [hi.1]; omega
    | ⟨1, _⟩ => show win0_3.index t 1 * 125 + 1 * (r.val % 125) = r.val % 125; rw [hi.2]; omega
  rw [e, V_v1, cast_rows _ _ _ _ (row t r) (by
    show 20000 * t.val + r.val = (160 * t.val + r.val / 125) * 125 + r.val % 125; omega)]
  rfl

end Cert.KernelIdeal.Value

end
-- ==== Proof.Math.lean ====
/- The mathematics the two programs share, over the extended reals: a row's softmax and confidence, the indicator of a
   bin, a bin's gap, and the two errors. -/
module

public import Idealize.ShloMosaic.PureOps.Ideal
public import Idealize.ShloMosaic.Lib.IdealHost

@[expose] public section

noncomputable section

namespace Cert.Math

open Idealize.ShloMosaic

/-- The largest entry of a row. -/
def top (x : Fin 100 → EReal) : EReal := Finset.univ.sup x

/-- The sum of the exponentials of a row's entries below its largest. -/
def mass (x : Fin 100 → EReal) : EReal := ∑ k, Ideal.exp (x k - top x)

/-- A row's softmax. -/
def soft (x : Fin 100 → EReal) (c : Fin 100) : EReal := Ideal.div (Ideal.exp (x c - top x)) (mass x)

/-- One where a confidence lies in the half-open bin, zero elsewhere. -/
def ind (lo hi p : EReal) : EReal := if lo < p ∧ p ≤ hi then 1 else 0

/-- The distance between a bin's mean confidence and its accuracy, of its count and its two sums. -/
def gap (n p a : EReal) : EReal :=
  max (Ideal.div p (max n 1) - Ideal.div a (max n 1)) (-(Ideal.div p (max n 1) - Ideal.div a (max n 1)))

/-- What a bin adds to the expected error. -/
def eceTerm (n p a : EReal) : EReal :=
  if 0 < n then gap n p a * Ideal.div n (Ideal.ofBits .f32 0x49742400#32) else 0

/-- What a bin offers to the maximum error. -/
def mceTerm (n p a : EReal) : EReal := if 0 < n then gap n p a else Ideal.ofBits .f32 0xBF800000#32

/-- The word of minus infinity denotes the least extended real. -/
theorem ofBits_bot : Ideal.ofBits .f32 0xFF800000#32 = ⊥ := by simp [Ideal.ofBits, Ideal.ieee]

/-- The word of plus infinity denotes the largest extended real. -/
theorem ofBits_top : Ideal.ofBits .f32 0x7F800000#32 = ⊤ := by simp [Ideal.ofBits, Ideal.ieee]

/-- The word of minus one denotes minus one. -/
theorem ofBits_neg : Ideal.ofBits .f32 0xBF800000#32 = -1 := by
  simp [Ideal.ofBits, Ideal.ieee, -EReal.coe_mul]; norm_num

/-- The indicator of a bin, from the two comparisons. -/
theorem ind_of_cmp (lo hi p : EReal) :
    (((IntOp.andi (Ideal.cmp .ogt p lo) (Ideal.cmp .ole p hi)).toNat : ℝ) : EReal) = ind lo hi p := by
  unfold ind Ideal.cmp
  by_cases h₁ : lo < p <;> by_cases h₂ : p ≤ hi <;> simp [h₁, h₂, IntOp.andi]

/-- A choice by a comparison. -/
theorem ite_ogt {α : Type*} (a b : EReal) (u v : α) : (if Ideal.cmp .ogt a b = 1#1 then u else v) = if b < a then u else v := by
  unfold Ideal.cmp; by_cases h : b < a <;> simp [h]

/-- The bit of an equality of words, as a number. -/
theorem bit_eq (a b : BitVec 32) : (((IntOp.cmpi .eq a b).toNat : ℝ) : EReal) = if a = b then 1 else 0 := by
  by_cases h : a = b <;> simp [h, IntOp.cmpi]

/-- A bit widened to a word keeps its value. -/
theorem bit_word (b : BitVec 1) : (((BitVec.setWidth 32 b).toInt : ℝ) : EReal) = ((b.toNat : ℝ) : EReal) := by
  have h : ∀ b : BitVec 1, (BitVec.setWidth 32 b).toInt = b.toNat := by decide
  rw [h]; simp

/-- The bit of two equalities together, as a number. -/
theorem both_eq (a b c d : EReal) :
    (((BitVec.setWidth 32 (IntOp.andi (Ideal.cmp .oeq a b) (Ideal.cmp .oeq c d))).toInt : ℝ) : EReal) = if a = b ∧ c = d then 1 else 0 := by
  rw [bit_word]
  unfold Ideal.cmp
  by_cases h₁ : a = b <;> by_cases h₂ : c = d <;> simp [h₁, h₂, IntOp.andi]

end Cert.Math
-- ==== Proof.KernelRead.lean ====
/- The kernel's named functions read at an index, over the extended reals. -/
module

public import proofs.«01_k».proof.Proof.KernelRows
public import proofs.«01_k».proof.Proof.Math
public import Idealize.ShloMosaic.Lib.Pointwise

@[expose] public section

noncomputable section

namespace Cert.KernelIdeal.Value

open Cert.KernelIdeal Cert.KernelIdeal.Gen Idealize.ShloMosaic

/-! ## A row's softmax -/

variable (x1 x2 : Vec Ideal S1x128 .f32) (x3 : Vec Ideal S20000x100 .f32) (x4 : Vec Ideal S160x125 .f32) (s : Vec Ideal S1x128 .f32)

/-- A row's largest entry. -/
theorem pay11_apply (r : Fin 20000) : k0_pay11 (F := Ideal) x3 (ix2 r 0) = Math.top fun k => x3 (ix2 r k) := by
  pointwise [k0_pay11]
  rw [Math.ofBits_bot]; rfl

/-- The column of ones. -/
theorem pay10_apply (k : Fin 100) : k0_pay10 (F := Ideal) (ix2 k 0) = 1 := by
  pointwise [k0_pay10]

/-- The kernel's confidence: one over the sum of the exponentials. -/
theorem pay12_apply (r : Fin 20000) : k0_pay12 (F := Ideal) x3 (ix2 r 0) = Ideal.div 1 (Math.mass fun k => x3 (ix2 r k)) := by
  pointwise [k0_pay12]
  simp only [pay11_apply, pay10_apply, mul_one]
  rfl

/-! ## The labels -/

/-- The identity matrix. -/
theorem pay13_apply (i j : Fin 125) : k0_pay13 (F := Ideal) (ix2 i j) = if i = j then 1 else 0 := by
  pointwise [k0_pay13]
  refine (Math.bit_word _).trans ((Math.bit_eq _ _).trans ?_)
  have hi := i.isLt
  have hj := j.isLt
  have h : (IntOp.addi (BitVec.ofNat 32 i) 0#32 = BitVec.ofNat 32 j) = (i = j) := by
    unfold IntOp.addi
    rw [BitVec.add_zero, ← BitVec.toNat_inj, BitVec.toNat_ofNat, BitVec.toNat_ofNat, Nat.mod_eq_of_lt (by omega), Nat.mod_eq_of_lt (by omega),
      Fin.ext_iff]
  simp only [h]

/-- The labels of a group of rows, as a column. -/
theorem piece_apply (n : Fin 160) (q : Fin 125) : piece (F := Ideal) x4 n (ix2 q 0) = x4 (ix2 n q) := by
  pointwise [piece]
  have e : ∀ k : Fin 125, k0_pay13 (F := Ideal) (ix2 q k) * k0_pay14 (F := Ideal) x4 (ix2 n k) = if q = k then x4 (ix2 n k) else 0 := by
    intro k
    rw [pay13_apply]
    unfold k0_pay14
    rw [shapeCast_self]
    split <;> simp
  simp only [e]
  simp

/-- The labels of a block's rows, as a column. -/
theorem labels_apply (r : Fin 20000) :
    labels (F := Ideal) x4 (ix2 r 0) = x4 (ix2 ⟨r.val / 125, by omega⟩ ⟨r.val % 125, by omega⟩) := by
  unfold labels
  refine Eq.trans ?_ (piece_apply x4 ⟨r.val / 125, by omega⟩ ⟨r.val % 125, by omega⟩)
  exact concatenate_ofFn_apply (t := S20000x1) (s₁ := S125x1) 0 (fun n => piece (F := Ideal) x4 n) _ rfl 125 rfl (ix2 r 0) ⟨r.val / 125, by omega⟩ rfl
    (ix2 ⟨r.val % 125, by omega⟩ 0) rfl (fun b hb => by
      fin_cases b
      · exact absurd rfl hb
      · rfl)

/-- The number of columns of a row that hold its largest entry and are its label. -/
theorem hits_apply (r : Fin 20000) : hits (F := Ideal) x3 x4 (ix2 r 0)
    = ∑ k : Fin 100, if x3 (ix2 r k) = (Math.top fun k => x3 (ix2 r k))
        ∧ (((BitVec.ofNat 32 k.val).toInt : ℝ) : EReal) = x4 (ix2 ⟨r.val / 125, by omega⟩ ⟨r.val % 125, by omega⟩) then 1 else 0 := by
  pointwise [hits]
  refine Finset.sum_congr rfl fun k _ => ?_
  simp only [pay10_apply, mul_one, pay11_apply, labels_apply]
  exact Math.both_eq _ _ _ _

/-! ## The step -/

/-- Whether a row's confidence lies in a lane's bin. -/
theorem pay1_apply (r : Fin 20000) (l : Fin 128) :
    k0_pay1 (F := Ideal) (k0_pay170 x1 (k0_pay12 x3)) (k0_pay171 (k0_pay12 x3)) (k0_pay172 x2) (ix2 r l)
      = Math.ind (x1 (ix2 0 l)) (x2 (ix2 0 l)) (Ideal.div 1 (Math.mass fun k => x3 (ix2 r k))) := by
  pointwise [k0_pay1, k0_pay170, k0_pay171, k0_pay172]
  rw [pay12_apply, ← Math.ind_of_cmp]
  exact Math.bit_word _

/-- The count row gains the number of rows in each lane's bin. -/
theorem step0_apply (l : Fin 128) : step0 (F := Ideal) x1 x2 x3 s (ix2 0 l)
    = s (ix2 0 l) + ∑ r : Fin 20000, Math.ind (x1 (ix2 0 l)) (x2 (ix2 0 l)) (Ideal.div 1 (Math.mass fun k => x3 (ix2 r k))) := by
  pointwise [step0, k0_pay2]
  simp only [pay1_apply, one_mul]

/-- The confidence row gains the confidences of the rows in each lane's bin. -/
theorem step1_apply (l : Fin 128) : step1 (F := Ideal) x1 x2 x3 s (ix2 0 l)
    = s (ix2 0 l) + ∑ r : Fin 20000, Math.ind (x1 (ix2 0 l)) (x2 (ix2 0 l)) (Ideal.div 1 (Math.mass fun k => x3 (ix2 r k)))
        * Ideal.div 1 (Math.mass fun k => x3 (ix2 r k)) := by
  pointwise [step1, k0_pay3]
  simp only [pay1_apply, pay12_apply]
  exact congrArg _ (Finset.sum_congr rfl fun r _ => mul_comm _ _)

/-- The row of hits gains the hits of the rows in each lane's bin. -/
theorem step2_apply (l : Fin 128) : step2 (F := Ideal) x1 x2 x3 x4 s (ix2 0 l)
    = s (ix2 0 l) + ∑ r : Fin 20000, Math.ind (x1 (ix2 0 l)) (x2 (ix2 0 l)) (Ideal.div 1 (Math.mass fun k => x3 (ix2 r k)))
        * hits (F := Ideal) x3 x4 (ix2 r 0) := by
  pointwise [step2, k0_pay4]
  simp only [pay1_apply]
  exact congrArg _ (Finset.sum_congr rfl fun r _ => mul_comm _ _)

/-! ## The outputs -/

/-- The first output is the sum of the lanes' terms. -/
theorem pay7_apply (n p a : Vec Ideal S1x128 .f32) : k0_pay7 (F := Ideal) n p a (ix2 0 0)
    = ∑ l : Fin 128, Math.eceTerm (n (ix2 0 l)) (p (ix2 0 l)) (a (ix2 0 l)) := by
  pointwise [k0_pay7, k0_pay5, k0_pay6]
  rfl

/-- The second output is the largest of the lanes' terms. -/
theorem pay8_apply (n p a : Vec Ideal S1x128 .f32) : k0_pay8 (F := Ideal) n p a (ix2 0 0)
    = Finset.univ.sup fun l : Fin 128 => Math.mceTerm (n (ix2 0 l)) (p (ix2 0 l)) (a (ix2 0 l)) := by
  pointwise [k0_pay8, k0_pay5, k0_pay6]
  rw [Math.ofBits_bot]; rfl

end Cert.KernelIdeal.Value

end
-- ==== Proof.RefRun.lean ====
/- The reference program's run: its operations as a list, the mathematics they compute as named functions of the
   two arguments, and the statement that every execution ends with the two results at those functions. -/
module

public import proofs.«01_k».proof.Proof.Gen.ReferenceIdeal
public import Idealize.ShloMosaic.Lib.StableHlo.Run

@[expose] public section

noncomputable section

namespace Cert.ReferenceIdeal.Value

open Cert.ReferenceIdeal Cert.ReferenceIdeal.Gen Idealize.ShloMosaic Idealize.ShloMosaic.TcCoe Idealize.SL.Sem
open Idealize.ShloMosaic.StableHlo

variable {F : FTy → Type} [FloatOps F]

/-! ## The mathematics -/

/-- The softmax of the logits, row by row. -/
def soft (x : FVec F S1000000x100 .f32) : FVec F S1000000x100 .f32 :=
  let e := Host.exp (subf x (broadcastInDim S1000000x100 ![0, 1] bcast_S1000000x1_S1000000x100_0_1
    (broadcastInDim S1000000x1 ![0] bcast_S1000000_S1000000x1_0
      (maximumf (broadcastInDim S1000000 ![] bcast_S_S1000000 (constant S_ .f32 0xFF800000#32))
        (Host.reduce FloatOps.maximumf x (constant S_ .f32 0xFF800000#32) reducesTo_S1000000x100_S1000000_d1 h_S_)))))
  Host.divf e (broadcastInDim S1000000x100 ![0, 1] bcast_S1000000x1_S1000000x100_0_1
    (broadcastInDim S1000000x1 ![0] bcast_S1000000_S1000000x1_0
      (Host.reduceAdd e (constant S_ .f32 0x00000000#32) reducesTo_S1000000x100_S1000000_d1 h_S_)))

/-- The confidence of a row: the largest softmax value. -/
def conf (x : FVec F S1000000x100 .f32) : FVec F S1000000 .f32 :=
  Host.reduce FloatOps.maximumf (soft x) (constant S_ .f32 0xFF800000#32) reducesTo_S1000000x100_S1000000_d1 h_S_

/-- The column of a row's first largest value. -/
def argm (p : FVec F S1000000x100 .f32) : IVec S1000000 32 := fun j =>
  (Host.argReduce reducer_argmax_f32_i32 p (iotaInDim S1000000x100 32 1) (constant S_ .f32 0xFF800000#32)
    (constantI S_ 32 0#32) reducesTo_S1000000x100_S1000000_d1 h_S_ j).2

/-- One where the predicted column is the label, zero elsewhere. -/
def acc (x : FVec F S1000000x100 .f32) (l : IVec S1000000 32) : FVec F S1000000 .f32 :=
  uitofp .f32 (cmpi .eq (argm (soft x)) l)

/-- The eleven bin boundaries. -/
def bounds : FVec F S11 .f32 := fun i => FloatOps.ofBits .f32 (lit0 (S11.rowMajor i))

/-- A vector over the rows laid out along every bin. -/
def spread (v : FVec F S1000000 .f32) : FVec F S10x1000000 .f32 :=
  broadcastInDim S10x1000000 ![0, 1] bcast_S1x1000000_S10x1000000_0_1
    (broadcastInDim S1x1000000 ![1] bcast_S1000000_S1x1000000_1 v)

/-- A vector over the bins laid out along every row. -/
def column (v : FVec F S10 .f32) : FVec F S10x1000000 .f32 :=
  broadcastInDim S10x1000000 ![0, 1] bcast_S10x1_S10x1000000_0_1
    (broadcastInDim S10x1 ![0] bcast_S10_S10x1_0 v)

/-- One where the row's confidence lies in the bin, zero elsewhere. -/
def inBin (x : FVec F S1000000x100 .f32) : FVec F S10x1000000 .f32 :=
  uitofp .f32 (andi (cmpf .ogt (spread (conf x)) (column (extractStridedSlice S10 ![0] bounds slices_S11_S10_0)))
    (cmpf .ole (spread (conf x)) (column (extractStridedSlice S10 ![1] bounds slices_S11_S10_1))))

/-- The sum over the rows, bin by bin. -/
def total (v : FVec F S10x1000000 .f32) : FVec F S10 .f32 :=
  Host.reduceAdd v (constant S_ .f32 0x00000000#32) reducesTo_S10x1000000_S10_d1 h_S_

/-- A number laid out along the bins. -/
def each (w : BitVec 32) : FVec F S10 .f32 := broadcastInDim S10 ![] bcast_S_S10 (constant S_ .f32 w)

/-- The number of rows in each bin, with one in place of zero. -/
def safe (x : FVec F S1000000x100 .f32) : FVec F S10 .f32 := maximumf (total (inBin x)) (each 0x3F800000#32)

/-- The distance between a bin's mean confidence and its accuracy. -/
def gap (x : FVec F S1000000x100 .f32) (l : IVec S1000000 32) : FVec F S10 .f32 :=
  Host.absf (subf (Host.divf (total (mulf (inBin x) (spread (conf x)))) (safe x))
    (Host.divf (total (mulf (inBin x) (spread (acc x l)))) (safe x)))

/-- Whether a bin holds a row. -/
def held (x : FVec F S1000000x100 .f32) : IVec S10 1 := cmpf .ogt (total (inBin x)) (each 0x00000000#32)

/-- The expected calibration error. -/
def ece (x : FVec F S1000000x100 .f32) (l : IVec S1000000 32) : FVec F S_ .f32 :=
  Host.reduceAdd (select (held x) (mulf (gap x l) (Host.divf (total (inBin x)) (each 0x49742400#32)))
    (each 0x00000000#32)) (constant S_ .f32 0x00000000#32) reducesTo_S10_S_d0 h_S_

/-- The maximum calibration error. -/
def mce (x : FVec F S1000000x100 .f32) (l : IVec S1000000 32) : FVec F S_ .f32 :=
  Host.reduce FloatOps.maximumf (select (held x) (gap x l) (each 0xBF800000#32)) (constant S_ .f32 0xFF800000#32)
    reducesTo_S10_S_d0 h_S_

/-! ## The run -/

/-- The program's operations, in order, those of a called function in the place of its call. -/
abbrev ops : List (HloOp τ sig (Elt F)) :=
  [ nullary main_cst (fun i => FloatOps.ofBits .f32 (lit0 (S11.rowMajor i))),
    nullary main_cst_0 (constant S_ .f32 0xFF800000#32),
    binary main_arg0 main_cst_0 main_v0 ((fun x v => Host.reduce FloatOps.maximumf x v reducesTo_S1000000x100_S1000000_d1 h_S_) : (⟨S1000000x100, .f32⟩ : BufTy).Contents (Elt F) → (⟨S_, .f32⟩ : BufTy).Contents (Elt F) → (⟨S1000000, .f32⟩ : BufTy).Contents (Elt F)),
    nullary main_cst_1 (constant S_ .f32 0xFF800000#32),
    unary main_cst_1 main_v1 (broadcastInDim S1000000 ![] bcast_S_S1000000 : (⟨S_, .f32⟩ : BufTy).Contents (Elt F) → (⟨S1000000, .f32⟩ : BufTy).Contents (Elt F)),
    binary main_v1 main_v0 main_v2 (maximumf : (⟨S1000000, .f32⟩ : BufTy).Contents (Elt F) → (⟨S1000000, .f32⟩ : BufTy).Contents (Elt F) → (⟨S1000000, .f32⟩ : BufTy).Contents (Elt F)),
    unary main_v2 main_v3 (broadcastInDim S1000000x1 ![0] bcast_S1000000_S1000000x1_0 : (⟨S1000000, .f32⟩ : BufTy).Contents (Elt F) → (⟨S1000000x1, .f32⟩ : BufTy).Contents (Elt F)),
    unary main_v3 main_v4 (broadcastInDim S1000000x100 ![0, 1] bcast_S1000000x1_S1000000x100_0_1 : (⟨S1000000x1, .f32⟩ : BufTy).Contents (Elt F) → (⟨S1000000x100, .f32⟩ : BufTy).Contents (Elt F)),
    binary main_arg0 main_v4 main_v5 (subf : (⟨S1000000x100, .f32⟩ : BufTy).Contents (Elt F) → (⟨S1000000x100, .f32⟩ : BufTy).Contents (Elt F) → (⟨S1000000x100, .f32⟩ : BufTy).Contents (Elt F)),
    unary main_v5 main_v6 (Host.exp : (⟨S1000000x100, .f32⟩ : BufTy).Contents (Elt F) → (⟨S1000000x100, .f32⟩ : BufTy).Contents (Elt F)),
    nullary main_cst_2 (constant S_ .f32 0x00000000#32),
    binary main_v6 main_cst_2 main_v7 ((fun x v => Host.reduceAdd x v reducesTo_S1000000x100_S1000000_d1 h_S_) : (⟨S1000000x100, .f32⟩ : BufTy).Contents (Elt F) → (⟨S_, .f32⟩ : BufTy).Contents (Elt F) → (⟨S1000000, .f32⟩ : BufTy).Contents (Elt F)),
    unary main_v7 main_v8 (broadcastInDim S1000000x1 ![0] bcast_S1000000_S1000000x1_0 : (⟨S1000000, .f32⟩ : BufTy).Contents (Elt F) → (⟨S1000000x1, .f32⟩ : BufTy).Contents (Elt F)),
    unary main_v8 main_v9 (broadcastInDim S1000000x100 ![0, 1] bcast_S1000000x1_S1000000x100_0_1 : (⟨S1000000x1, .f32⟩ : BufTy).Contents (Elt F) → (⟨S1000000x100, .f32⟩ : BufTy).Contents (Elt F)),
    binary main_v6 main_v9 main_v10 (Host.divf : (⟨S1000000x100, .f32⟩ : BufTy).Contents (Elt F) → (⟨S1000000x100, .f32⟩ : BufTy).Contents (Elt F) → (⟨S1000000x100, .f32⟩ : BufTy).Contents (Elt F)),
    nullary main_cst_3 (constant S_ .f32 0xFF800000#32),
    binary main_v10 main_cst_3 main_v11 ((fun x v => Host.reduce FloatOps.maximumf x v reducesTo_S1000000x100_S1000000_d1 h_S_) : (⟨S1000000x100, .f32⟩ : BufTy).Contents (Elt F) → (⟨S_, .f32⟩ : BufTy).Contents (Elt F) → (⟨S1000000, .f32⟩ : BufTy).Contents (Elt F)),
    TRef.nullary (TRef.of (T := ⟨S1000000x100, .i32⟩) main_call0_v0) (iotaInDim S1000000x100 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S1000000x100, .f32⟩) main_v10) (TRef.of (T := ⟨S1000000x100, .i32⟩) main_call0_v0) (TRef.of (T := ⟨S_, .f32⟩) main_call0_cst) (TRef.of (T := ⟨S_, .i32⟩) main_call0_c) (TRef.of (T := ⟨S1000000, .f32⟩) main_call0_v1_0) (fun x y u v j => (Host.argReduce reducer_argmax_f32_i32 x y u v reducesTo_S1000000x100_S1000000_d1 h_S_ j).1),
    TRef.quaternary (TRef.of (T := ⟨S1000000x100, .f32⟩) main_v10) (TRef.of (T := ⟨S1000000x100, .i32⟩) main_call0_v0) (TRef.of (T := ⟨S_, .f32⟩) main_call0_cst) (TRef.of (T := ⟨S_, .i32⟩) main_call0_c) (TRef.of (T := ⟨S1000000, .i32⟩) main_v12) (fun x y u v j => (Host.argReduce reducer_argmax_f32_i32 x y u v reducesTo_S1000000x100_S1000000_d1 h_S_ j).2),
    binary main_v12 main_arg1 main_v13 (cmpi .eq : (⟨S1000000, .i32⟩ : BufTy).Contents (Elt F) → (⟨S1000000, .i32⟩ : BufTy).Contents (Elt F) → (⟨S1000000, .i1⟩ : BufTy).Contents (Elt F)),
    unary main_v13 main_v14 (uitofp .f32 : (⟨S1000000, .i1⟩ : BufTy).Contents (Elt F) → (⟨S1000000, .f32⟩ : BufTy).Contents (Elt F)),
    unary main_cst main_v15 ((extractStridedSlice S10 ![0] · slices_S11_S10_0) : (⟨S11, .f32⟩ : BufTy).Contents (Elt F) → (⟨S10, .f32⟩ : BufTy).Contents (Elt F)),
    unary main_cst main_v16 ((extractStridedSlice S10 ![1] · slices_S11_S10_1) : (⟨S11, .f32⟩ : BufTy).Contents (Elt F) → (⟨S10, .f32⟩ : BufTy).Contents (Elt F)),
    unary main_v11 main_v17 (broadcastInDim S1x1000000 ![1] bcast_S1000000_S1x1000000_1 : (⟨S1000000, .f32⟩ : BufTy).Contents (Elt F) → (⟨S1x1000000, .f32⟩ : BufTy).Contents (Elt F)),
    unary main_v15 main_v18 (broadcastInDim S10x1 ![0] bcast_S10_S10x1_0 : (⟨S10, .f32⟩ : BufTy).Contents (Elt F) → (⟨S10x1, .f32⟩ : BufTy).Contents (Elt F)),
    unary main_v17 main_v19 (broadcastInDim S10x1000000 ![0, 1] bcast_S1x1000000_S10x1000000_0_1 : (⟨S1x1000000, .f32⟩ : BufTy).Contents (Elt F) → (⟨S10x1000000, .f32⟩ : BufTy).Contents (Elt F)),
    unary main_v18 main_v20 (broadcastInDim S10x1000000 ![0, 1] bcast_S10x1_S10x1000000_0_1 : (⟨S10x1, .f32⟩ : BufTy).Contents (Elt F) → (⟨S10x1000000, .f32⟩ : BufTy).Contents (Elt F)),
    binary main_v19 main_v20 main_v21 (cmpf .ogt : (⟨S10x1000000, .f32⟩ : BufTy).Contents (Elt F) → (⟨S10x1000000, .f32⟩ : BufTy).Contents (Elt F) → (⟨S10x1000000, .i1⟩ : BufTy).Contents (Elt F)),
    unary main_v11 main_v22 (broadcastInDim S1x1000000 ![1] bcast_S1000000_S1x1000000_1 : (⟨S1000000, .f32⟩ : BufTy).Contents (Elt F) → (⟨S1x1000000, .f32⟩ : BufTy).Contents (Elt F)),
    unary main_v16 main_v23 (broadcastInDim S10x1 ![0] bcast_S10_S10x1_0 : (⟨S10, .f32⟩ : BufTy).Contents (Elt F) → (⟨S10x1, .f32⟩ : BufTy).Contents (Elt F)),
    unary main_v22 main_v24 (broadcastInDim S10x1000000 ![0, 1] bcast_S1x1000000_S10x1000000_0_1 : (⟨S1x1000000, .f32⟩ : BufTy).Contents (Elt F) → (⟨S10x1000000, .f32⟩ : BufTy).Contents (Elt F)),
    unary main_v23 main_v25 (broadcastInDim S10x1000000 ![0, 1] bcast_S10x1_S10x1000000_0_1 : (⟨S10x1, .f32⟩ : BufTy).Contents (Elt F) → (⟨S10x1000000, .f32⟩ : BufTy).Contents (Elt F)),
    binary main_v24 main_v25 main_v26 (cmpf .ole : (⟨S10x1000000, .f32⟩ : BufTy).Contents (Elt F) → (⟨S10x1000000, .f32⟩ : BufTy).Contents (Elt F) → (⟨S10x1000000, .i1⟩ : BufTy).Contents (Elt F)),
    binary main_v21 main_v26 main_v27 (andi : (⟨S10x1000000, .i1⟩ : BufTy).Contents (Elt F) → (⟨S10x1000000, .i1⟩ : BufTy).Contents (Elt F) → (⟨S10x1000000, .i1⟩ : BufTy).Contents (Elt F)),
    unary main_v27 main_v28 (uitofp .f32 : (⟨S10x1000000, .i1⟩ : BufTy).Contents (Elt F) → (⟨S10x1000000, .f32⟩ : BufTy).Contents (Elt F)),
    nullary main_cst_4 (constant S_ .f32 0x00000000#32),
    binary main_v28 main_cst_4 main_v29 ((fun x v => Host.reduceAdd x v reducesTo_S10x1000000_S10_d1 h_S_) : (⟨S10x1000000, .f32⟩ : BufTy).Contents (Elt F) → (⟨S_, .f32⟩ : BufTy).Contents (Elt F) → (⟨S10, .f32⟩ : BufTy).Contents (Elt F)),
    nullary main_cst_5 (constant S_ .f32 0x49742400#32),
    unary main_cst_5 main_v30 (broadcastInDim S10 ![] bcast_S_S10 : (⟨S_, .f32⟩ : BufTy).Contents (Elt F) → (⟨S10, .f32⟩ : BufTy).Contents (Elt F)),
    binary main_v29 main_v30 main_v31 (Host.divf : (⟨S10, .f32⟩ : BufTy).Contents (Elt F) → (⟨S10, .f32⟩ : BufTy).Contents (Elt F) → (⟨S10, .f32⟩ : BufTy).Contents (Elt F)),
    nullary main_cst_6 (constant S_ .f32 0x3F800000#32),
    unary main_cst_6 main_v32 (broadcastInDim S10 ![] bcast_S_S10 : (⟨S_, .f32⟩ : BufTy).Contents (Elt F) → (⟨S10, .f32⟩ : BufTy).Contents (Elt F)),
    binary main_v29 main_v32 main_v33 (maximumf : (⟨S10, .f32⟩ : BufTy).Contents (Elt F) → (⟨S10, .f32⟩ : BufTy).Contents (Elt F) → (⟨S10, .f32⟩ : BufTy).Contents (Elt F)),
    unary main_v11 main_v34 (broadcastInDim S1x1000000 ![1] bcast_S1000000_S1x1000000_1 : (⟨S1000000, .f32⟩ : BufTy).Contents (Elt F) → (⟨S1x1000000, .f32⟩ : BufTy).Contents (Elt F)),
    unary main_v34 main_v35 (broadcastInDim S10x1000000 ![0, 1] bcast_S1x1000000_S10x1000000_0_1 : (⟨S1x1000000, .f32⟩ : BufTy).Contents (Elt F) → (⟨S10x1000000, .f32⟩ : BufTy).Contents (Elt F)),
    binary main_v28 main_v35 main_v36 (mulf : (⟨S10x1000000, .f32⟩ : BufTy).Contents (Elt F) → (⟨S10x1000000, .f32⟩ : BufTy).Contents (Elt F) → (⟨S10x1000000, .f32⟩ : BufTy).Contents (Elt F)),
    nullary main_cst_7 (constant S_ .f32 0x00000000#32),
    binary main_v36 main_cst_7 main_v37 ((fun x v => Host.reduceAdd x v reducesTo_S10x1000000_S10_d1 h_S_) : (⟨S10x1000000, .f32⟩ : BufTy).Contents (Elt F) → (⟨S_, .f32⟩ : BufTy).Contents (Elt F) → (⟨S10, .f32⟩ : BufTy).Contents (Elt F)),
    binary main_v37 main_v33 main_v38 (Host.divf : (⟨S10, .f32⟩ : BufTy).Contents (Elt F) → (⟨S10, .f32⟩ : BufTy).Contents (Elt F) → (⟨S10, .f32⟩ : BufTy).Contents (Elt F)),
    unary main_v14 main_v39 (broadcastInDim S1x1000000 ![1] bcast_S1000000_S1x1000000_1 : (⟨S1000000, .f32⟩ : BufTy).Contents (Elt F) → (⟨S1x1000000, .f32⟩ : BufTy).Contents (Elt F)),
    unary main_v39 main_v40 (broadcastInDim S10x1000000 ![0, 1] bcast_S1x1000000_S10x1000000_0_1 : (⟨S1x1000000, .f32⟩ : BufTy).Contents (Elt F) → (⟨S10x1000000, .f32⟩ : BufTy).Contents (Elt F)),
    binary main_v28 main_v40 main_v41 (mulf : (⟨S10x1000000, .f32⟩ : BufTy).Contents (Elt F) → (⟨S10x1000000, .f32⟩ : BufTy).Contents (Elt F) → (⟨S10x1000000, .f32⟩ : BufTy).Contents (Elt F)),
    nullary main_cst_8 (constant S_ .f32 0x00000000#32),
    binary main_v41 main_cst_8 main_v42 ((fun x v => Host.reduceAdd x v reducesTo_S10x1000000_S10_d1 h_S_) : (⟨S10x1000000, .f32⟩ : BufTy).Contents (Elt F) → (⟨S_, .f32⟩ : BufTy).Contents (Elt F) → (⟨S10, .f32⟩ : BufTy).Contents (Elt F)),
    binary main_v42 main_v33 main_v43 (Host.divf : (⟨S10, .f32⟩ : BufTy).Contents (Elt F) → (⟨S10, .f32⟩ : BufTy).Contents (Elt F) → (⟨S10, .f32⟩ : BufTy).Contents (Elt F)),
    binary main_v38 main_v43 main_v44 (subf : (⟨S10, .f32⟩ : BufTy).Contents (Elt F) → (⟨S10, .f32⟩ : BufTy).Contents (Elt F) → (⟨S10, .f32⟩ : BufTy).Contents (Elt F)),
    unary main_v44 main_v45 (Host.absf : (⟨S10, .f32⟩ : BufTy).Contents (Elt F) → (⟨S10, .f32⟩ : BufTy).Contents (Elt F)),
    nullary main_cst_9 (constant S_ .f32 0x00000000#32),
    unary main_cst_9 main_v46 (broadcastInDim S10 ![] bcast_S_S10 : (⟨S_, .f32⟩ : BufTy).Contents (Elt F) → (⟨S10, .f32⟩ : BufTy).Contents (Elt F)),
    binary main_v29 main_v46 main_v47 (cmpf .ogt : (⟨S10, .f32⟩ : BufTy).Contents (Elt F) → (⟨S10, .f32⟩ : BufTy).Contents (Elt F) → (⟨S10, .i1⟩ : BufTy).Contents (Elt F)),
    binary main_v45 main_v31 main_v48 (mulf : (⟨S10, .f32⟩ : BufTy).Contents (Elt F) → (⟨S10, .f32⟩ : BufTy).Contents (Elt F) → (⟨S10, .f32⟩ : BufTy).Contents (Elt F)),
    nullary main_cst_10 (constant S_ .f32 0x00000000#32),
    TRef.unary (TRef.of (T := ⟨S_, .f32⟩) main_cst_10) (TRef.of (T := ⟨S_, .f32⟩) main_call1_v0) id,
    TRef.unary (TRef.of (T := ⟨S_, .f32⟩) main_call1_v0) (TRef.of (T := ⟨S10, .f32⟩) main_call1_v1) (broadcastInDim S10 ![] bcast_S_S10),
    TRef.ternary (TRef.of (T := ⟨S10, .i1⟩) main_v47) (TRef.of (T := ⟨S10, .f32⟩) main_v48) (TRef.of (T := ⟨S10, .f32⟩) main_call1_v1) (TRef.of (T := ⟨S10, .f32⟩) main_v49) select,
    nullary main_cst_11 (constant S_ .f32 0x00000000#32),
    binary main_v49 main_cst_11 main_v50 ((fun x v => Host.reduceAdd x v reducesTo_S10_S_d0 h_S_) : (⟨S10, .f32⟩ : BufTy).Contents (Elt F) → (⟨S_, .f32⟩ : BufTy).Contents (Elt F) → (⟨S_, .f32⟩ : BufTy).Contents (Elt F)),
    nullary main_cst_12 (constant S_ .f32 0xBF800000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S10, .f32⟩) main_call2_v1) (broadcastInDim S10 ![] bcast_S_S10),
    TRef.ternary (TRef.of (T := ⟨S10, .i1⟩) main_v47) (TRef.of (T := ⟨S10, .f32⟩) main_v45) (TRef.of (T := ⟨S10, .f32⟩) main_call2_v1) (TRef.of (T := ⟨S10, .f32⟩) main_v51) select,
    nullary main_cst_13 (constant S_ .f32 0xFF800000#32),
    binary main_v51 main_cst_13 main_v52 ((fun x v => Host.reduce FloatOps.maximumf x v reducesTo_S10_S_d0 h_S_) : (⟨S10, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The program is those operations run one after another. -/
theorem main_eq (c : Dev nD) : main (F := F) c = seq ops := rfl

/-- No buffer is scoped. -/
theorem scopedRefs_eq : (Finset.univ.filter fun b : Ref sig .tc => b.isScoped) = ∅ := by decide

/-- No semaphore is scoped. -/
theorem scopedSems_eq : (Finset.univ.filter fun sm : SemLoc sig => sm.isScoped .tc) = ∅ := by decide

set_option maxRecDepth 8192 in
/-- Every operation works on the program's own buffers. -/
theorem ops_sub : (ops : List (HloOp τ sig (Elt F))).Forall fun op => op.bufs ⊆ tcRefs τ sig :=
  ⟨nullary_bufs_sub .., nullary_bufs_sub .., binary_bufs_sub .., nullary_bufs_sub .., unary_bufs_sub ..,
    binary_bufs_sub .., unary_bufs_sub .., unary_bufs_sub .., binary_bufs_sub .., unary_bufs_sub ..,
    nullary_bufs_sub .., binary_bufs_sub .., unary_bufs_sub .., unary_bufs_sub .., binary_bufs_sub ..,
    nullary_bufs_sub .., binary_bufs_sub .., nullary_bufs_sub .., nullary_bufs_sub .., nullary_bufs_sub ..,
    quaternary_bufs_sub .., quaternary_bufs_sub .., binary_bufs_sub .., unary_bufs_sub .., unary_bufs_sub ..,
    unary_bufs_sub .., unary_bufs_sub .., unary_bufs_sub .., unary_bufs_sub .., unary_bufs_sub ..,
    binary_bufs_sub .., unary_bufs_sub .., unary_bufs_sub .., unary_bufs_sub .., unary_bufs_sub ..,
    binary_bufs_sub .., binary_bufs_sub .., unary_bufs_sub .., nullary_bufs_sub .., binary_bufs_sub ..,
    nullary_bufs_sub .., unary_bufs_sub .., binary_bufs_sub .., nullary_bufs_sub .., unary_bufs_sub ..,
    binary_bufs_sub .., unary_bufs_sub .., unary_bufs_sub .., binary_bufs_sub .., nullary_bufs_sub ..,
    binary_bufs_sub .., binary_bufs_sub .., unary_bufs_sub .., unary_bufs_sub .., binary_bufs_sub ..,
    nullary_bufs_sub .., binary_bufs_sub .., binary_bufs_sub .., binary_bufs_sub .., unary_bufs_sub ..,
    nullary_bufs_sub .., unary_bufs_sub .., binary_bufs_sub .., binary_bufs_sub .., nullary_bufs_sub ..,
    unary_bufs_sub .., unary_bufs_sub .., ternary_bufs_sub .., nullary_bufs_sub .., binary_bufs_sub ..,
    nullary_bufs_sub .., unary_bufs_sub .., unary_bufs_sub .., ternary_bufs_sub .., nullary_bufs_sub ..,
    binary_bufs_sub ..⟩

set_option maxRecDepth 8192 in
set_option maxHeartbeats 33200000 in
/-- Every execution terminates with the two results at `ece` and `mce` of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50)
          = ece (m ((c.tc : Thread nD τ).loc main_arg0)) (m ((c.tc : Thread nD τ).loc main_arg1))
      ∧ r.2.mem ((c.tc : Thread nD τ).loc main_v52)
          = mce (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_v50).trans (by
        simp only [ops, TRef.nullary, TRef.unary, TRef.ternary, TRef.quaternary, TRef.toBuf, TRef.ofBuf, cast_eq]
        after_results_simp <;> rfl),
      (h c main_v52).trans (by
        simp only [ops, TRef.nullary, TRef.unary, TRef.ternary, TRef.quaternary, TRef.toBuf, TRef.ofBuf, cast_eq]
        after_results_simp <;> rfl),
      (h c main_arg0).trans (by
        simp only [ops, TRef.nullary, TRef.unary, TRef.ternary, TRef.quaternary, TRef.toBuf, TRef.ofBuf, cast_eq]
        after_results_simp <;> rfl),
      (h c main_arg1).trans (by
        simp only [ops, TRef.nullary, TRef.unary, TRef.ternary, TRef.quaternary, TRef.toBuf, TRef.ofBuf, cast_eq]
        after_results_simp <;> rfl)⟩)
    (run_seq scopedRefs_eq scopedSems_eq defs main (fun _ => ops) main_eq (fun _ => ops_sub) m ρ)

end Cert.ReferenceIdeal.Value

end
-- ==== Proof.RefRead.lean ====
/- The reference's named functions read at an index, over the extended reals. -/
module

public import proofs.«01_k».proof.Proof.RefRun
public import proofs.«01_k».proof.Proof.Math
public import Idealize.ShloMosaic.Lib.Pointwise

@[expose] public section

noncomputable section

namespace Cert.ReferenceIdeal.Value

open Cert.ReferenceIdeal Cert.ReferenceIdeal.Gen Idealize.ShloMosaic

section Spread
variable {α : Type} {n m : Nat}

/-- A vector broadcast first to a column and then along the rows reads, at a row and a column, its entry at the row. -/
theorem bcast_rows (hn : n ≠ 1) (h₁ : (⟨1, ![n]⟩ : Shape).BroadcastsInDim ⟨2, ![n, 1]⟩ ![0])
    (h₂ : (⟨2, ![n, 1]⟩ : Shape).BroadcastsInDim ⟨2, ![n, m]⟩ ![0, 1]) (v : (⟨1, ![n]⟩ : Shape).Idx → α) (r : Fin n) (c : Fin m) :
    broadcastInDim ⟨2, ![n, m]⟩ ![0, 1] h₂ (broadcastInDim ⟨2, ![n, 1]⟩ ![0] h₁ v) (ix2 r c) = v (ix1 r) := by
  rw [broadcastInDim_apply _ _ _ _ (ix2 r 0), broadcastInDim_apply _ _ _ _ (ix1 r)]
  · intro a; fin_cases a; exact (if_neg hn).symm
  · intro a; fin_cases a
    · exact (if_neg hn).symm
    · rfl

/-- A vector broadcast first to a row and then along the columns reads, at a row and a column, its entry at the column. -/
theorem bcast_cols (hm : m ≠ 1) (h₁ : (⟨1, ![m]⟩ : Shape).BroadcastsInDim ⟨2, ![1, m]⟩ ![1])
    (h₂ : (⟨2, ![1, m]⟩ : Shape).BroadcastsInDim ⟨2, ![n, m]⟩ ![0, 1]) (v : (⟨1, ![m]⟩ : Shape).Idx → α) (r : Fin n) (c : Fin m) :
    broadcastInDim ⟨2, ![n, m]⟩ ![0, 1] h₂ (broadcastInDim ⟨2, ![1, m]⟩ ![1] h₁ v) (ix2 r c) = v (ix1 c) := by
  rw [broadcastInDim_apply _ _ _ _ (ix2 0 c), broadcastInDim_apply _ _ _ _ (ix1 c)]
  · intro a; fin_cases a; exact (if_neg hm).symm
  · intro a; fin_cases a
    · rfl
    · exact (if_neg hm).symm

/-- A single number broadcast along a vector is that number everywhere. -/
theorem bcast_one (h : (⟨0, ![]⟩ : Shape).BroadcastsInDim ⟨1, ![n]⟩ ![]) (v : (⟨0, ![]⟩ : Shape).Idx → α) (r : (⟨1, ![n]⟩ : Shape).Idx) :
    broadcastInDim ⟨1, ![n]⟩ ![] h v r = v ix0 :=
  broadcastInDim_apply _ _ _ _ ix0 fun a => a.elim0

end Spread

section Scalar
variable {s : Shape} (u v : FVec Ideal s .f32) (a b : IVec s 1) (i j : IVec s 32) (k : s.Idx)

theorem exp_at : Host.exp u k = Ideal.exp (u k) := rfl
theorem sub_at : subf u v k = u k - v k := rfl
theorem mul_at : mulf u v k = u k * v k := rfl
theorem max_at : maximumf u v k = max (u k) (v k) := rfl
theorem div_at : Host.divf u v k = Ideal.div (u k) (v k) := rfl
theorem abs_at : Host.absf u k = max (u k) (-u k) := rfl
theorem cmp_at (p : CmpFPredicate) : cmpf p u v k = Ideal.cmp p (u k) (v k) := rfl
theorem and_at : andi a b k = IntOp.andi (a k) (b k) := rfl
theorem eq_at : cmpi .eq i j k = IntOp.cmpi .eq (i k) (j k) := rfl
theorem nat_at : (uitofp .f32 a : FVec Ideal s .f32) k = (((a k).toNat : ℝ) : EReal) := rfl
theorem const_at (w : BitVec 32) : (constant s .f32 w : FVec Ideal s .f32) k = Ideal.ofBits .f32 w := rfl
theorem sel_at : select a u v k = if a k = 1#1 then u k else v k := rfl
theorem sum_at {axes : List (Fin s.rank)} {t q : Shape} (h : s.ReducesTo axes t) (hq : 0 < q.numel) (w : BitVec 32) (l : t.Idx) :
    Host.reduceAdd u (constant q .f32 w) h hq l = Ideal.hostReduceAdd h u (Ideal.ofBits .f32 w) l := rfl

end Scalar

variable (x : FVec Ideal S1000000x100 .f32) (l : IVec S1000000 32)

/-- The row maximum of a table of logits. -/
theorem rowMax_apply (p : FVec Ideal S1000000x100 .f32) (r : Fin 1000000) :
    Host.reduce (FloatOps.maximumf (F := Ideal) (φ := .f32)) p (constant (F := Ideal) S_ .f32 0xFF800000#32) reducesTo_S1000000x100_S1000000_d1 h_S_ (ix1 r)
      = Finset.univ.sup fun k : Fin 100 => p (ix2 r k) := by
  pointwise
  rw [Math.ofBits_bot]; rfl

/-- A row's softmax. -/
theorem soft_apply (r : Fin 1000000) (c : Fin 100) : soft x (ix2 r c) = Math.soft (fun k => x (ix2 r k)) c := by
  have e : ∀ k : Fin 100, Host.exp (subf x (broadcastInDim S1000000x100 ![0, 1] bcast_S1000000x1_S1000000x100_0_1
      (broadcastInDim S1000000x1 ![0] bcast_S1000000_S1000000x1_0
        (maximumf (broadcastInDim S1000000 ![] bcast_S_S1000000 (constant S_ .f32 0xFF800000#32))
          (Host.reduce FloatOps.maximumf x (constant S_ .f32 0xFF800000#32) reducesTo_S1000000x100_S1000000_d1 h_S_))))) (ix2 r k)
      = Ideal.exp (x (ix2 r k) - Math.top fun k => x (ix2 r k)) := by
    intro k
    rw [exp_at, sub_at, bcast_rows (by norm_num), max_at, bcast_one, rowMax_apply, const_at, Math.ofBits_bot, max_eq_right bot_le]
    rfl
  unfold soft Math.soft Math.mass
  dsimp only
  rw [div_at, bcast_rows (by norm_num), e, sum_at, Ideal.hostReduceAdd_r2_a1, Ideal.ofBits_zero_f32, zero_add]
  exact congrArg _ (Finset.sum_congr rfl fun k _ => e k)

/-- A row's confidence. -/
theorem conf_apply (r : Fin 1000000) : conf x (ix1 r) = Finset.univ.sup (Math.soft fun k => x (ix2 r k)) := by
  unfold conf
  rw [rowMax_apply]
  exact congrArg _ (funext fun k => soft_apply x r k)

/-- A row's hit: one where the predicted column is the label. -/
theorem acc_apply (r : Fin 1000000) : acc x l (ix1 r) = if argm (soft x) (ix1 r) = l (ix1 r) then 1 else 0 := by
  unfold acc
  rw [nat_at, eq_at, Math.bit_eq]

/-- The lower boundary of a bin. -/
def lo (b : Fin 10) : EReal := Ideal.ofBits .f32 (lit0 (b.castSucc))

/-- The upper boundary of a bin. -/
def hi (b : Fin 10) : EReal := Ideal.ofBits .f32 (lit0 b.succ)

/-- A boundary's position in the table. -/
theorem bounds_at (k : Fin 11) : bounds (F := Ideal) (ix1 k) = Ideal.ofBits .f32 (lit0 k) := by
  unfold bounds
  fin_cases k <;> rfl

/-- Whether a row's confidence lies in a bin. -/
theorem inBin_apply (b : Fin 10) (r : Fin 1000000) : inBin x (ix2 b r) = Math.ind (lo b) (hi b) (conf x (ix1 r)) := by
  unfold inBin spread column
  rw [nat_at, and_at, cmp_at, cmp_at, bcast_cols (by norm_num), bcast_rows (by norm_num), bcast_rows (by norm_num),
    extractStridedSlice_apply _ _ _ _ (ix1 b.castSucc), extractStridedSlice_apply _ _ _ _ (ix1 b.succ), bounds_at, bounds_at,
    Math.ind_of_cmp]
  · rfl
  · intro a; fin_cases a; exact Nat.add_comm _ _
  · intro a; fin_cases a; exact (Nat.zero_add _).symm

/-- A bin's sum over the rows. -/
theorem total_apply (v : FVec Ideal S10x1000000 .f32) (b : Fin 10) : total v (ix1 b) = ∑ r : Fin 1000000, v (ix2 b r) := by
  pointwise [total]

/-- A bin's count. -/
def cnt (b : Fin 10) : EReal := ∑ r : Fin 1000000, Math.ind (lo b) (hi b) (conf x (ix1 r))

/-- A bin's sum of confidences. -/
def confSum (b : Fin 10) : EReal := ∑ r : Fin 1000000, Math.ind (lo b) (hi b) (conf x (ix1 r)) * conf x (ix1 r)

/-- A bin's sum of hits. -/
def accSum (b : Fin 10) : EReal := ∑ r : Fin 1000000, Math.ind (lo b) (hi b) (conf x (ix1 r)) * acc x l (ix1 r)

/-- A bin's count is the total of its indicators. -/
theorem total_inBin (b : Fin 10) : total (inBin x) (ix1 b) = cnt x b := by
  rw [total_apply]; exact Finset.sum_congr rfl fun r _ => inBin_apply x b r

/-- A bin's total of its indicators times a quantity of the rows. -/
theorem total_mul (v : FVec Ideal S1000000 .f32) (b : Fin 10) :
    total (mulf (inBin x) (spread v)) (ix1 b) = ∑ r : Fin 1000000, Math.ind (lo b) (hi b) (conf x (ix1 r)) * v (ix1 r) := by
  rw [total_apply]
  refine Finset.sum_congr rfl fun r _ => ?_
  unfold spread
  rw [mul_at, inBin_apply, bcast_cols (by norm_num)]

/-- A number laid out along the bins. -/
theorem each_at (w : BitVec 32) (b : Fin 10) : each (F := Ideal) w (ix1 b) = Ideal.ofBits .f32 w := by
  unfold each; rw [bcast_one, const_at]

/-- A bin's gap. -/
theorem gap_apply (b : Fin 10) : gap x l (ix1 b) = Math.gap (cnt x b) (confSum x b) (accSum x l b) := by
  have hs : safe x (ix1 b) = max (cnt x b) 1 := by
    unfold safe
    rw [max_at, total_inBin, each_at, Ideal.ofBits_one_f32]
  unfold gap
  rw [abs_at, sub_at, div_at, div_at, hs, total_mul, total_mul]
  rfl

/-- Whether a bin holds a row. -/
theorem held_apply (b : Fin 10) : held x (ix1 b) = Ideal.cmp .ogt (cnt x b) 0 := by
  unfold held
  rw [cmp_at, total_inBin, each_at, Ideal.ofBits_zero_f32]

/-- The expected error is the sum of the bins' terms. -/
theorem ece_apply (j : S_.Idx) : ece x l j = ∑ b : Fin 10, Math.eceTerm (cnt x b) (confSum x b) (accSum x l b) := by
  unfold ece
  rw [sum_at, Ideal.hostReduceAdd_r1_a0, Ideal.ofBits_zero_f32, zero_add]
  refine Finset.sum_congr rfl fun b _ => ?_
  rw [sel_at, mul_at, div_at, held_apply, gap_apply, total_inBin, each_at, each_at, Ideal.ofBits_zero_f32, Math.ite_ogt]
  rfl

/-- The maximum error is the largest of the bins' terms. -/
theorem mce_apply (j : S_.Idx) : mce x l j = Finset.univ.sup fun b : Fin 10 => Math.mceTerm (cnt x b) (confSum x b) (accSum x l b) := by
  have e : ∀ b : Fin 10, select (held x) (gap x l) (each 0xBF800000#32) (ix1 b) = Math.mceTerm (cnt x b) (confSum x b) (accSum x l b) := by
    intro b
    rw [sel_at, held_apply, gap_apply, each_at, Math.ite_ogt]
    rfl
  have g : ∀ v : FVec Ideal S10 .f32, Host.reduce (FloatOps.maximumf (F := Ideal) (φ := .f32)) v (constant (F := Ideal) S_ .f32 0xFF800000#32)
      reducesTo_S10_S_d0 h_S_ j = Finset.univ.sup fun b : Fin 10 => v (ix1 b) := by
    intro v
    pointwise
    rw [Math.ofBits_bot]; rfl
  unfold mce
  rw [g]
  exact congrArg _ (funext e)

end Cert.ReferenceIdeal.Value
-- ==== Proof.RowMath.lean ====
/- One row's confidence: a row of a hundred extended reals either has a real maximum, and then the reciprocal of its
   shifted mass is the largest of its softmax entries; or it has none, and then its mass is zero. -/
module

public import proofs.«01_k».proof.Proof.Math

@[expose] public section

noncomputable section

namespace Cert.Math

open Idealize.ShloMosaic

/-- The maximum of a row is one of its entries. -/
theorem top_attained (x : Fin 100 → EReal) : ∃ k, x k = top x := by
  obtain ⟨k, -, hk⟩ := Finset.exists_mem_eq_sup Finset.univ ⟨0, Finset.mem_univ _⟩ x
  exact ⟨k, hk.symm⟩

/-- No entry exceeds the maximum. -/
theorem le_top' (x : Fin 100 → EReal) (k : Fin 100) : x k ≤ top x := Finset.le_sup (Finset.mem_univ k)

/-- The exponential of an entry shifted by an infinite maximum is zero. -/
theorem exp_zero_of_infinite (x : Fin 100 → EReal) (h : top x = ⊤ ∨ top x = ⊥) (k : Fin 100) :
    Ideal.exp (x k - top x) = 0 := by
  rcases h with h | h
  · rw [h, sub_eq_add_neg, EReal.neg_top, EReal.add_bot, Ideal.exp_bot]
  · have hk : x k = ⊥ := le_bot_iff.mp (h ▸ le_top' x k)
    rw [hk, sub_eq_add_neg, EReal.bot_add, Ideal.exp_bot]

/-- With an infinite maximum the mass is zero. -/
theorem mass_of_infinite (x : Fin 100 → EReal) (h : top x = ⊤ ∨ top x = ⊥) : mass x = 0 :=
  Finset.sum_eq_zero fun k _ => exp_zero_of_infinite x h k

/-- With an infinite maximum every softmax entry is the bottom element. -/
theorem soft_of_infinite (x : Fin 100 → EReal) (h : top x = ⊤ ∨ top x = ⊥) (k : Fin 100) :
    soft x k = ⊥ := by
  unfold soft
  rw [mass_of_infinite x h, exp_zero_of_infinite x h k, Ideal.div, if_pos rfl, if_neg (lt_irrefl _)]

/-- With a real maximum, each shifted exponential is a real number in `[0, 1]`, and it is `1` exactly
    at the entries equal to the maximum. -/
theorem exp_shift (x : Fin 100 → EReal) (M : ℝ) (hM : top x = (M : EReal)) (k : Fin 100) :
    ∃ e : ℝ, Ideal.exp (x k - top x) = (e : EReal) ∧ 0 ≤ e ∧ e ≤ 1 ∧ (e = 1 ↔ x k = top x) := by
  have hk := le_top' x k
  rw [hM] at hk ⊢
  generalize x k = y at hk ⊢
  induction y with
  | bot =>
    refine ⟨0, ?_, le_rfl, zero_le_one, ?_⟩
    · rw [sub_eq_add_neg, EReal.bot_add, Ideal.exp_bot, EReal.coe_zero]
    · exact ⟨fun h => absurd h (by norm_num), fun h => absurd h (EReal.bot_ne_coe M)⟩
  | top => exact absurd (top_le_iff.mp hk) (EReal.coe_ne_top M)
  | coe r =>
    have hr : r ≤ M := EReal.coe_le_coe_iff.mp hk
    refine ⟨Real.exp (r - M), ?_, (Real.exp_pos _).le, Real.exp_le_one_iff.mpr (by linarith), ?_⟩
    · rw [← EReal.coe_sub, Ideal.exp_coe]
    · rw [Real.exp_eq_one_iff, EReal.coe_eq_coe_iff, sub_eq_zero]

/-- With a real maximum the mass is a real number, at least one. -/
theorem mass_of_real (x : Fin 100 → EReal) (M : ℝ) (hM : top x = (M : EReal)) :
    ∃ s : ℝ, mass x = (s : EReal) ∧ 1 ≤ s := by
  choose e he h0 h1 hiff using exp_shift x M hM
  refine ⟨∑ k, e k, ?_, ?_⟩
  · unfold mass
    rw [Finset.sum_congr rfl fun k _ => he k]
    exact (map_sum (⟨⟨Real.toEReal, EReal.coe_zero⟩, EReal.coe_add⟩ : ℝ →+ EReal) e Finset.univ).symm
  · obtain ⟨k, hk⟩ := top_attained x
    calc (1 : ℝ) = e k := ((hiff k).mpr hk).symm
      _ ≤ ∑ k, e k := Finset.single_le_sum (fun i _ => h0 i) (Finset.mem_univ k)

/-- With a real maximum, no softmax entry exceeds the reciprocal of the mass, and those equal to it are
    the entries where the row attains its maximum. -/
theorem soft_of_real (x : Fin 100 → EReal) (M : ℝ) (hM : top x = (M : EReal)) (k : Fin 100) :
    soft x k ≤ Ideal.div 1 (mass x) ∧ (soft x k = Ideal.div 1 (mass x) ↔ x k = top x) := by
  obtain ⟨s, hs, h1⟩ := mass_of_real x M hM
  obtain ⟨e, he, h0, hle, hiff⟩ := exp_shift x M hM k
  have hpos : (0 : ℝ) < s := by linarith
  have a : soft x k = ((e * (1 / s) : ℝ) : EReal) := by
    unfold soft
    rw [hs, he, Ideal.div_coe hpos.ne', EReal.coe_mul]
  have b : Ideal.div 1 (mass x) = ((1 * (1 / s) : ℝ) : EReal) := by
    rw [hs, Ideal.div_coe hpos.ne', EReal.coe_mul, EReal.coe_one]
  have hinv : 0 < 1 / s := by positivity
  rw [a, b, EReal.coe_le_coe_iff, EReal.coe_eq_coe_iff, ← hiff]
  exact ⟨mul_le_mul_of_nonneg_right hle hinv.le,
    ⟨fun h => mul_right_cancel₀ hinv.ne' h, fun h => by rw [h]⟩⟩

/-- With a real maximum, the largest softmax entry is the reciprocal of the mass. -/
theorem conf_of_real (x : Fin 100 → EReal) (M : ℝ) (hM : top x = (M : EReal)) :
    Finset.univ.sup (soft x) = Ideal.div 1 (mass x) := by
  apply le_antisymm
  · exact Finset.sup_le fun k _ => (soft_of_real x M hM k).1
  · obtain ⟨k, hk⟩ := top_attained x
    rw [← ((soft_of_real x M hM k).2).mpr hk]
    exact Finset.le_sup (Finset.mem_univ k)

/-- A row's maximum is real or infinite. -/
theorem top_cases (x : Fin 100 → EReal) : (∃ M : ℝ, top x = (M : EReal)) ∨ (top x = ⊤ ∨ top x = ⊥) := by
  induction top x with
  | bot => exact Or.inr (Or.inr rfl)
  | top => exact Or.inr (Or.inl rfl)
  | coe r => exact Or.inl ⟨r, rfl⟩

/-- In a bin whose upper bound is not infinite, a row without a real maximum lies in no bin: neither by the
    reciprocal of its mass, nor by its largest softmax entry. -/
theorem ind_of_infinite (x : Fin 100 → EReal) (h : top x = ⊤ ∨ top x = ⊥) (lo hi : EReal) (hhi : hi ≠ ⊤) :
    ind lo hi (Ideal.div 1 (mass x)) = 0 ∧ ind lo hi (Finset.univ.sup (soft x)) = 0 := by
  have a : Ideal.div 1 (mass x) = ⊤ := by
    rw [mass_of_infinite x h, Ideal.div, if_pos rfl, if_pos zero_lt_one]
  have b : Finset.univ.sup (soft x) = ⊥ :=
    le_bot_iff.mp (Finset.sup_le fun k _ => (soft_of_infinite x h k).le)
  constructor
  · rw [a, ind, if_neg fun h => hhi (top_le_iff.mp h.2)]
  · rw [b, ind, if_neg fun h => not_lt_bot h.1]

/-- Nothing lies above the top element: a bin whose lower bound it is holds no row. -/
theorem ind_top (hi p : EReal) : ind ⊤ hi p = 0 := by
  rw [ind, if_neg fun h => not_top_lt h.1]

/-- In a bin with a finite upper bound the two confidences place a row alike. -/
theorem ind_conf (x : Fin 100 → EReal) (lo hi : EReal) (hhi : hi ≠ ⊤) :
    ind lo hi (Ideal.div 1 (mass x)) = ind lo hi (Finset.univ.sup (soft x)) := by
  rcases top_cases x with ⟨M, hM⟩ | h
  · rw [conf_of_real x M hM]
  · rw [(ind_of_infinite x h lo hi hhi).1, (ind_of_infinite x h lo hi hhi).2]

/-- In a bin with a finite upper bound a row adds the same confidence by both. -/
theorem ind_mul_conf (x : Fin 100 → EReal) (lo hi : EReal) (hhi : hi ≠ ⊤) :
    ind lo hi (Ideal.div 1 (mass x)) * Ideal.div 1 (mass x)
      = ind lo hi (Finset.univ.sup (soft x)) * Finset.univ.sup (soft x) := by
  rcases top_cases x with ⟨M, hM⟩ | h
  · rw [conf_of_real x M hM]
  · rw [(ind_of_infinite x h lo hi hhi).1, (ind_of_infinite x h lo hi hhi).2, zero_mul, zero_mul]

/-- `c` is the first position at which the row attains its maximum. -/
def FirstMax (f : Fin 100 → EReal) (c : Fin 100) : Prop :=
  f c = Finset.univ.sup f ∧ ∀ d, d < c → f d ≠ Finset.univ.sup f

/-- There is one first position only. -/
theorem FirstMax.unique {f : Fin 100 → EReal} {c d : Fin 100} (hc : FirstMax f c) (hd : FirstMax f d) :
    c = d := by
  rcases lt_trichotomy c d with h | h | h
  · exact absurd hc.1 (hd.2 c h)
  · exact h
  · exact absurd hd.1 (hc.2 d h)

/-- With a real maximum, softmax keeps the first position of the maximum. -/
theorem firstMax_soft (x : Fin 100 → EReal) (M : ℝ) (hM : top x = (M : EReal)) (c : Fin 100) :
    FirstMax (soft x) c ↔ FirstMax x c := by
  have key : ∀ k, soft x k = Finset.univ.sup (soft x) ↔ x k = Finset.univ.sup x := fun k => by
    rw [conf_of_real x M hM]
    exact (soft_of_real x M hM k).2
  unfold FirstMax
  simp only [ne_eq, key]

/-- Lanes past the tenth whose terms vanish leave the sum of the ten. -/
theorem sum_lanes (f : Fin 128 → EReal) (g : Fin 10 → EReal)
    (h : ∀ b : Fin 10, f (b.castLE (by decide)) = g b) (hz : ∀ l : Fin 128, 10 ≤ l.val → f l = 0) :
    ∑ l, f l = ∑ b, g b := by
  have e : ∑ l : Fin 128, f l = ∑ l : Fin (10 + 118), f l := rfl
  rw [e, Fin.sum_univ_add, Finset.sum_eq_zero (s := (Finset.univ : Finset (Fin 118))), add_zero]
  · exact Finset.sum_congr rfl fun b _ => h b
  · intro i _
    exact hz _ (by simp)

/-- Lanes past the tenth below every one of the ten leave the maximum of the ten. -/
theorem sup_lanes (f : Fin 128 → EReal) (g : Fin 10 → EReal)
    (h : ∀ b : Fin 10, f (b.castLE (by decide)) = g b) (hz : ∀ l : Fin 128, 10 ≤ l.val → f l ≤ g 0) :
    Finset.univ.sup f = Finset.univ.sup g := by
  apply le_antisymm
  · refine Finset.sup_le fun l _ => ?_
    by_cases hl : l.val < 10
    · exact (h ⟨l.val, hl⟩ : f l = _).le.trans (Finset.le_sup (Finset.mem_univ _))
    · exact (hz l (by omega)).trans (Finset.le_sup (Finset.mem_univ _))
  · refine Finset.sup_le fun b _ => ?_
    rw [← h b]
    exact Finset.le_sup (Finset.mem_univ _)

/-- The gap of a bin is nonnegative. -/
theorem gap_nonneg (n p a : EReal) : 0 ≤ gap n p a := by
  unfold gap
  generalize Ideal.div p _ - Ideal.div a _ = y
  rcases le_total 0 y with h | h
  · exact le_max_of_le_left h
  · exact le_max_of_le_right (EReal.neg_nonneg.mpr h)

/-- An empty bin adds nothing to the expected error. -/
theorem eceTerm_empty (p a : EReal) : eceTerm 0 p a = 0 := by
  unfold eceTerm
  rw [if_neg (lt_irrefl _)]

/-- An empty bin's entry in the maximum is at most any bin's. -/
theorem mceTerm_empty_le (p a n q b : EReal) : mceTerm 0 p a ≤ mceTerm n q b := by
  have e : mceTerm 0 p a = Ideal.ofBits .f32 0xBF800000#32 := by
    unfold mceTerm
    rw [if_neg (lt_irrefl _)]
  rw [e]
  unfold mceTerm
  split_ifs
  · refine le_trans ?_ (gap_nonneg n q b)
    rw [ofBits_neg]
    rw [EReal.neg_le, neg_zero]; exact zero_le_one
  · exact le_rfl

end Cert.Math
-- ==== Proof.Argmax.lean ====
/- The first position of a row's maximum: the fold over a row's columns in ascending order ends at the maximum together
   with the first column that attains it. -/
module

public import proofs.«01_k».proof.Proof.RowMath
public import Idealize.ShloMosaic.PureOps.Ideal.Laws
public import Idealize.ShloMosaic.Lib.Pointwise

@[expose] public section

noncomputable section

namespace Cert.Math

open Idealize.ShloMosaic

/-- Of two values with their columns, the larger; of two equal ones, the smaller column. -/
def pick (a b : EReal × BitVec 32) : EReal × BitVec 32 :=
  (Scalar.select (IntOp.ori (Ideal.cmp .ogt a.1 b.1) (Ideal.cmp .une a.1 a.1)) a.1 b.1,
    Scalar.select (IntOp.ori (IntOp.ori (Ideal.cmp .ogt a.1 b.1) (Ideal.cmp .une a.1 a.1))
      (IntOp.andi (Ideal.cmp .oeq a.1 b.1) (IntOp.cmpi .slt a.2 b.2))) a.2 b.2)

/-- The choice spelt out by cases. -/
theorem pick_eq (a b : EReal × BitVec 32) :
    pick a b = if b.1 < a.1 ∨ (a.1 = b.1 ∧ a.2.slt b.2 = true) then a else b := by
  obtain ⟨u, i⟩ := a
  obtain ⟨v, j⟩ := b
  unfold pick Ideal.cmp
  rcases lt_trichotomy u v with h | h | h
  · simp [h.not_gt, h.ne, IntOp.ori, IntOp.andi, Scalar.select]
  · subst h
    by_cases hs : i.slt j = true <;> simp [hs, IntOp.ori, IntOp.andi, IntOp.cmpi, Scalar.select]
  · simp [h, h.ne', IntOp.ori, IntOp.andi, Scalar.select]

/-- Below a hundred, the order of columns is the order of their words. -/
theorem slt_of_lt (c k : Nat) (h : c < k) (hk : k < 100) : (BitVec.ofNat 32 c).slt (BitVec.ofNat 32 k) = true := by
  rw [BitVec.slt_eq_decide, decide_eq_true_eq, BitVec.toInt_ofNat', BitVec.toInt_ofNat']
  rw [Int.bmod_eq_of_le, Int.bmod_eq_of_le] <;> omega

/-- The fold over the first `k + 1` columns stands at a column attaining their maximum, the first to do so. -/
theorem fold_prefix (f : Fin 100 → EReal) : ∀ k (hk : k < 100), ∃ c : Fin 100, c.val ≤ k ∧
    ((List.finRange 100).take (k + 1)).foldl (fun s i => pick s (f i, BitVec.ofNat 32 i.val)) (⊥, 0#32)
      = (f c, BitVec.ofNat 32 c.val) ∧ (∀ d : Fin 100, d.val ≤ k → f d ≤ f c) ∧ ∀ d, d < c → f d ≠ f c := by
  intro k
  induction k with
  | zero =>
    intro hk
    refine ⟨0, le_rfl, ?_, fun d hd => ?_, fun d hd => absurd hd (Fin.not_lt_zero d)⟩
    · have e : (List.finRange 100).take (0 + 1) = [0] := by decide
      rw [e, List.foldl_cons, List.foldl_nil, pick_eq]
      exact if_neg fun h => h.elim not_lt_bot fun h => absurd h.2 (by show ¬(0#32).slt (BitVec.ofNat 32 0) = true; decide)
    · exact le_of_eq (congrArg f (Fin.ext (Nat.le_zero.mp hd)))
  | succ k ih =>
    intro hk
    obtain ⟨c, hc, e, hmax, hfirst⟩ := ih (by omega)
    have hl : k + 1 < (List.finRange 100).length := by rw [List.length_finRange]; exact hk
    rw [← List.take_concat_get' _ _ hl, List.foldl_append, e, List.foldl_cons, List.foldl_nil,
      List.getElem_finRange, pick_eq]
    have hs : (BitVec.ofNat 32 c.val).slt (BitVec.ofNat 32 (k + 1)) = true := slt_of_lt _ _ (by omega) hk
    by_cases h : f ⟨k + 1, hk⟩ ≤ f c
    · refine ⟨c, by omega, ?_, fun d hd => ?_, hfirst⟩
      · exact if_pos (h.lt_or_eq.imp_right fun h => ⟨h.symm, hs⟩)
      · by_cases hd' : d.val ≤ k
        · exact hmax d hd'
        · have : d = ⟨k + 1, hk⟩ := Fin.ext (by show d.val = k + 1; omega)
          rw [this]; exact h
    · have h' := not_le.mp h
      refine ⟨⟨k + 1, hk⟩, le_rfl, ?_, fun d hd => ?_, fun d hd => ?_⟩
      · exact if_neg fun hh => hh.elim (fun a => h a.le) fun a => h a.1.ge
      · by_cases hd' : d.val ≤ k
        · exact (hmax d hd').trans h'.le
        · exact le_of_eq (congrArg f (Fin.ext (by show d.val = k + 1; omega)))
      · exact ((hmax d (Nat.lt_succ_iff.mp hd)).trans_lt h').ne

/-- The fold over all columns ends at the first position of the row's maximum. -/
theorem fold_first (f : Fin 100 → EReal) : ∃ c : Fin 100,
    ((List.finRange 100).foldl (fun s i => pick s (f i, BitVec.ofNat 32 i.val)) (⊥, 0#32)).2 = BitVec.ofNat 32 c.val
      ∧ FirstMax f c := by
  obtain ⟨c, -, e, hmax, hfirst⟩ := fold_prefix f 99 (by decide)
  have hsup : f c = Finset.univ.sup f :=
    le_antisymm (Finset.le_sup (Finset.mem_univ c)) (Finset.sup_le fun d _ => hmax d (by omega))
  rw [List.take_of_length_le (by rw [List.length_finRange])] at e
  exact ⟨c, by rw [e], hsup, fun d hd => hsup ▸ hfirst d hd⟩

/-- A row's columns, as positions of the whole array: the positions that drop to the row, in ascending order. -/
theorem fiber_row {n0 n1 : Nat} {t : Shape} (h : (⟨2, ![n0, n1]⟩ : Shape).ReducesTo [1] t) (j : t.Idx)
    (r : Fin n0) (hr : r = ⟨(j ⟨0, h.lt_r2_a1_0⟩).val, Shape.coordLt (j ⟨0, h.lt_r2_a1_0⟩) h.size_r2_a1_0⟩) :
    ((List.finRange (⟨2, ![n0, n1]⟩ : Shape).numel).filter fun n => h.drop ((⟨2, ![n0, n1]⟩ : Shape).rowMajor.symm n) = j)
      = (List.finRange n1).map fun k => (⟨2, ![n0, n1]⟩ : Shape).rowMajor (ix2 r k) := by
  have hsort : ∀ (N : Nat), (List.finRange N).Pairwise (· < ·) := fun N => List.pairwise_lt_finRange N
  have hlt : ((List.finRange n1).map fun k => (⟨2, ![n0, n1]⟩ : Shape).rowMajor (ix2 r k)).Pairwise (· < ·) := by
    rw [List.pairwise_map]
    refine (hsort n1).imp fun {a b} hab => ?_
    rw [Fin.lt_def, Shape.rowMajor_val_two, Shape.rowMajor_val_two]
    exact Nat.add_lt_add_left hab _
  refine List.Perm.eq_of_pairwise (le := (· < ·)) ?_ ((hsort _).filter _) hlt ?_
  · intro a b _ _ hab hba
    exact absurd (hab.trans hba) (lt_irrefl _)
  · refine (List.perm_ext_iff_of_nodup (((hsort _).filter _).imp fun h => h.ne) (hlt.imp fun h => h.ne)).mpr fun n => ?_
    rw [List.mem_filter, List.mem_map, decide_eq_true_eq, h.fiber_r2_a1, ← hr]
    constructor
    · rintro ⟨-, k, hk⟩
      exact ⟨k, List.mem_finRange k, by rw [hk, Equiv.apply_symm_apply]⟩
    · rintro ⟨k, -, hk⟩
      exact ⟨List.mem_finRange n, k, by rw [← hk, Equiv.symm_apply_apply]⟩

/-- The index of a row's largest entry, chosen by `pick` over the columns, is the first position of the row's maximum. -/
theorem argReduce_first {n0 : Nat} {u : Shape} (f : EReal × BitVec 32 → EReal × BitVec 32 → EReal × BitVec 32) (hf : f = pick)
    (h : (⟨2, ![n0, 100]⟩ : Shape).ReducesTo [1] ⟨1, ![n0]⟩) (hu : 0 < u.numel) (x : FVec Ideal ⟨2, ![n0, 100]⟩ .f32) (r : Fin n0) :
    ∃ c : Fin 100, (Host.argReduce (F := Ideal) (φ := .f32) f x (iotaInDim ⟨2, ![n0, 100]⟩ 32 1)
        (constant (F := Ideal) u .f32 0xFF800000#32) (constantI u 32 0#32) h hu (ix1 r)).2 = BitVec.ofNat 32 c.val
      ∧ FirstMax (fun k => x (ix2 r k)) c := by
  obtain ⟨c, hc, hm⟩ := fold_first fun k => x (ix2 r k)
  refine ⟨c, ?_, hm⟩
  have hi : ∀ k : Fin 100, iotaInDim (⟨2, ![n0, 100]⟩ : Shape) 32 1 (ix2 r k) = BitVec.ofNat 32 k.val := fun _ => rfl
  have hb : ∀ i, constant (F := Ideal) u .f32 0xFF800000#32 i = (⊥ : EReal) := fun _ => ofBits_bot
  have hz : ∀ i, constantI u 32 0#32 i = 0#32 := fun _ => rfl
  rw [hf, Ideal.argReduce_eq_reduce2, Host.reduce2_eq_foldl_fiber, Host.argReduceFiber, fiber_row h (ix1 r) r rfl, List.map_map,
    List.foldl_map, hb, hz, ← hc]
  simp only [Function.comp_apply, Equiv.symm_apply_apply, hi]

end Cert.Math

end
-- ==== Proof.Label.lean ====
/- The prediction and the precondition read at a row, and a row's hit: where a row has a real maximum, the reference's
   hit is the count of the columns that are the label and attain that maximum. -/
module

public import proofs.«01_k».proof.Proof.RefRead
public import proofs.«01_k».proof.Proof.Argmax
public import proofs.«01_k».proof.Pre_label_is_first_maximum

@[expose] public section

noncomputable section

namespace Cert.ReferenceIdeal.Value

open Cert.ReferenceIdeal Cert.ReferenceIdeal.Gen Idealize.ShloMosaic

variable (x : FVec Ideal S1000000x100 .f32) (l : IVec S1000000 32)

/-- The prediction, spelt out. -/
theorem argm_eq : argm x = fun j => (Host.argReduce (F := Ideal) reducer_argmax_f32_i32 x (iotaInDim S1000000x100 32 1)
    (constant S_ .f32 0xFF800000#32) (constantI S_ 32 0#32) reducesTo_S1000000x100_S1000000_d1 h_S_ j).2 := rfl

/-- The prediction at a row is the first position of the row's maximum. -/
theorem argm_first (r : Fin 1000000) : ∃ c : Fin 100,
    argm x (ix1 r) = BitVec.ofNat 32 c.val ∧ Math.FirstMax (fun k => x (ix2 r k)) c := by
  obtain ⟨c, hc, hm⟩ := Math.argReduce_first (n0 := 1000000) (reducer_argmax_f32_i32 (F := Ideal)) rfl
    reducesTo_S1000000x100_S1000000_d1 h_S_ x r
  exact ⟨c, (congrFun (argm_eq x) (ix1 r)).trans hc, hm⟩

section Pre
variable [Cert.Pre_label_is_first_maximum.Facts]

/-- The precondition's first maximum, spelt out. -/
theorem pre_argm_eq : Cert.Pre_label_is_first_maximum.fn_argmax (F := Ideal) x
    = fun j => (Host.argReduce (F := Ideal) Cert.Pre_label_is_first_maximum.reducer_argmax_f32_i32 x (iotaInDim S1000000x100 32 1)
        (constant S_ .f32 0xFF800000#32) (constantI S_ 32 0#32)
        Cert.Pre_label_is_first_maximum.Facts.reducesTo_S1000000x100_S1000000_d1
        Cert.Pre_label_is_first_maximum.Facts.h_S_ j).2 := rfl

/-- The precondition's first maximum at a row is the first position of the row's maximum. -/
theorem pre_argm (r : Fin 1000000) : ∃ c : Fin 100,
    Cert.Pre_label_is_first_maximum.fn_argmax (F := Ideal) x (ix1 r) = BitVec.ofNat 32 c.val
      ∧ Math.FirstMax (fun k => x (ix2 r k)) c := by
  obtain ⟨c, hc, hm⟩ := Math.argReduce_first (n0 := 1000000)
    (Cert.Pre_label_is_first_maximum.reducer_argmax_f32_i32 (F := Ideal)) rfl
    Cert.Pre_label_is_first_maximum.Facts.reducesTo_S1000000x100_S1000000_d1 Cert.Pre_label_is_first_maximum.Facts.h_S_ x r
  exact ⟨c, (congrFun (pre_argm_eq x) (ix1 r)).trans hc, hm⟩

/-- A vector broadcast along the rows reads, at a row and a column, its entry at the row. -/
theorem bcast_row {α : Type} {n m : Nat} (hn : n ≠ 1) (h : (⟨1, ![n]⟩ : Shape).BroadcastsInDim ⟨2, ![n, m]⟩ ![0])
    (v : (⟨1, ![n]⟩ : Shape).Idx → α) (r : Fin n) (c : Fin m) :
    broadcastInDim ⟨2, ![n, m]⟩ ![0] h v (ix2 r c) = v (ix1 r) := by
  rw [broadcastInDim_apply _ _ _ _ (ix1 r)]
  intro a; fin_cases a; exact (if_neg hn).symm

theorem or_at {s : Shape} (a b : IVec s 1) (k : s.Idx) : ori a b k = IntOp.ori (a k) (b k) := rfl
theorem ne_at {s : Shape} (i j : IVec s 32) (k : s.Idx) : cmpi .ne i j k = IntOp.cmpi .ne (i k) (j k) := rfl

/-- The precondition's three tests together, as a proposition. -/
theorem pre_bits (a b : EReal) (i j p : BitVec 32)
    (h : IntOp.ori (IntOp.ori (Ideal.cmp .une a b) (IntOp.cmpi .ne i j)) (IntOp.cmpi .eq p j) = 1#1)
    (ha : a = b) (hi : i = j) : p = j := by
  subst ha hi
  by_contra hp
  have hb : (p == i) = false := beq_eq_false_iff_ne.mpr hp
  simp [Ideal.cmp, IntOp.cmpi, IntOp.ori, hb] at h

/-- The precondition's value at a row and a column. -/
theorem pre_apply (r : Fin 1000000) (k : Fin 100) :
    Cert.Pre_label_is_first_maximum.fn (F := Ideal) x l (ix2 r k)
      = IntOp.ori (IntOp.ori (Ideal.cmp .une (x (ix2 r k)) (Finset.univ.sup fun k : Fin 100 => x (ix2 r k)))
          (IntOp.cmpi .ne (BitVec.ofNat 32 k.val) (l (ix1 r))))
        (IntOp.cmpi .eq (Cert.Pre_label_is_first_maximum.fn_argmax (F := Ideal) x (ix1 r)) (l (ix1 r))) := by
  unfold Cert.Pre_label_is_first_maximum.fn
  dsimp only
  rw [or_at, or_at, cmp_at, ne_at, eq_at, bcast_row (by norm_num), bcast_row (by norm_num), bcast_row (by norm_num)]
  rw [← rowMax_apply x r]
  rfl

/-- Under the precondition, a label that attains its row's maximum is the first position of that maximum. -/
theorem pre_label (hp : Cert.Pre_label_is_first_maximum.fn (F := Ideal) x l = fun _ => 1#1) (r : Fin 1000000) (k : Fin 100)
    (hk : x (ix2 r k) = Math.top fun k => x (ix2 r k)) (hl : BitVec.ofNat 32 k.val = l (ix1 r)) :
    ∃ c : Fin 100, BitVec.ofNat 32 c.val = l (ix1 r) ∧ Math.FirstMax (fun k => x (ix2 r k)) c := by
  obtain ⟨c, hc, hf⟩ := pre_argm x r
  have h := congrFun hp (ix2 r k)
  rw [pre_apply] at h
  exact ⟨c, hc.symm.trans (pre_bits _ _ _ _ _ h hk hl), hf⟩

/-- A word's value as a number tells the words apart. -/
theorem word_inj (a b : BitVec 32) : ((a.toInt : ℝ) : EReal) = ((b.toInt : ℝ) : EReal) ↔ a = b := by
  rw [EReal.coe_eq_coe_iff, Int.cast_inj, BitVec.toInt_inj]

/-- Columns have distinct words. -/
theorem col_inj (a b : Fin 100) (h : BitVec.ofNat 32 a.val = BitVec.ofNat 32 b.val) : a = b := by
  have e := congrArg BitVec.toNat h
  rw [BitVec.toNat_ofNat, BitVec.toNat_ofNat, Nat.mod_eq_of_lt (by omega), Nat.mod_eq_of_lt (by omega)] at e
  exact Fin.ext e

/-- Under the precondition, at a row with a real maximum, the columns that attain the maximum and are the label number
    the reference's hit. -/
theorem acc_eq_hits (hp : Cert.Pre_label_is_first_maximum.fn (F := Ideal) x l = fun _ => 1#1) (r : Fin 1000000) (M : ℝ)
    (hM : (Math.top fun k => x (ix2 r k)) = (M : EReal)) :
    (∑ k : Fin 100, if x (ix2 r k) = (Math.top fun k => x (ix2 r k))
        ∧ (((BitVec.ofNat 32 k.val).toInt : ℝ) : EReal) = (((l (ix1 r)).toInt : ℝ) : EReal) then (1 : EReal) else 0)
      = acc x l (ix1 r) := by
  obtain ⟨c, hc, hf⟩ := argm_first (soft x) r
  have hf : Math.FirstMax (fun k => x (ix2 r k)) c := by
    refine (Math.firstMax_soft (fun k => x (ix2 r k)) M hM c).mp ?_
    rw [← funext fun k => soft_apply x r k]
    exact hf
  rw [acc_apply, hc]
  simp only [word_inj]
  by_cases h : BitVec.ofNat 32 c.val = l (ix1 r)
  · rw [if_pos h, Finset.sum_eq_single c]
    · exact if_pos ⟨hf.1, h⟩
    · exact fun d _ hd => if_neg fun hh => hd (col_inj d c (hh.2.trans h.symm))
    · exact fun hh => absurd (Finset.mem_univ c) hh
  · rw [if_neg h]
    refine Finset.sum_eq_zero fun k _ => if_neg fun hh => h ?_
    obtain ⟨d, hd, hfd⟩ := pre_label x l hp r k hh.1 hh.2
    rw [hf.unique hfd, hd]

/-- Under the precondition, in a bin with a finite upper bound, a row adds the same hit by both. -/
theorem ind_mul_acc (hp : Cert.Pre_label_is_first_maximum.fn (F := Ideal) x l = fun _ => 1#1) (r : Fin 1000000)
    (lo hi : EReal) (hhi : hi ≠ ⊤) :
    Math.ind lo hi (Ideal.div 1 (Math.mass fun k => x (ix2 r k)))
        * (∑ k : Fin 100, if x (ix2 r k) = (Math.top fun k => x (ix2 r k))
            ∧ (((BitVec.ofNat 32 k.val).toInt : ℝ) : EReal) = (((l (ix1 r)).toInt : ℝ) : EReal) then (1 : EReal) else 0)
      = Math.ind lo hi (conf x (ix1 r)) * acc x l (ix1 r) := by
  rw [conf_apply]
  rcases Math.top_cases fun k => x (ix2 r k) with ⟨M, hM⟩ | h
  · rw [acc_eq_hits x l hp r M hM, Math.ind_conf _ _ _ hhi]
  · rw [(Math.ind_of_infinite _ h lo hi hhi).1, (Math.ind_of_infinite _ h lo hi hhi).2, zero_mul, zero_mul]

end Pre

end Cert.ReferenceIdeal.Value

end
-- ==== Proof.Equation.lean ====
/- The two programs compute the same two errors: the kernel's rows total the rows of the whole table, its first ten lanes
   are the reference's bins, and its other lanes are empty. -/
module

public import proofs.«01_k».proof.Proof.KernelBlocks
public import proofs.«01_k».proof.Proof.KernelRead
public import proofs.«01_k».proof.Proof.Label

@[expose] public section

noncomputable section

namespace Cert.KernelIdeal.Value

open Cert.KernelIdeal Cert.KernelIdeal.Gen Idealize.ShloMosaic Idealize.ShloMosaic.TcCoe Idealize.SL.Sem

section Rows
variable (m : (ℓ : Loc nD τ sig) → Buf (Elt Ideal) ℓ) (c : Dev nD)

/-- The logits the kernel is given. -/
abbrev logits : FVec Ideal S1000000x100 .f32 := m ((c : Thread nD τ).loc main_arg0)

/-- The labels the kernel is given. -/
abbrev labs : IVec S1000000 32 := m ((c : Thread nD τ).loc main_arg1)

/-- A row's confidence, as the kernel computes it. -/
def kconf (i : Fin 1000000) : EReal := Ideal.div 1 (Math.mass fun k => logits m c (ix2 i k))

/-- A row's hits: the columns that attain its maximum and are its label. -/
def khits (i : Fin 1000000) : EReal := ∑ k : Fin 100, if logits m c (ix2 i k) = (Math.top fun k => logits m c (ix2 i k))
  ∧ (((BitVec.ofNat 32 k.val).toInt : ℝ) : EReal) = (((labs m c (ix1 i)).toInt : ℝ) : EReal) then 1 else 0

/-- What row `i` adds to lane `l` of each of the three rows of sums. -/
def share (l : Fin 128) (k : Fin 3) (i : Fin 1000000) : EReal :=
  Math.ind (Ideal.ofBits .f32 (lit0 l)) (Ideal.ofBits .f32 (lit1 l)) (kconf m c i) * ![1, kconf m c i, khits m c i] k

/-- The same at a natural number, nothing past the last row. -/
def shareAt (l : Fin 128) (k : Fin 3) (i : ℕ) : EReal := if h : i < 1000000 then share m c l k ⟨i, h⟩ else 0

/-- Before the end the two agree. -/
theorem shareAt_row (l : Fin 128) (k : Fin 3) (i : Fin 1000000) : shareAt m c l k i.val = share m c l k i := dif_pos i.isLt

/-- A point adds its rows' shares. -/
theorem next_apply (t : Fin cfg0.N) (s : Fin 3 → Vec Ideal S1x128 .f32) (l : Fin 128) (k : Fin 3) :
    next (F := Ideal) (iblk m c 0 t) (iblk m c 1 t) (iblk m c 2 t) (iblk m c 3 t) s k (ix2 0 l)
      = s k (ix2 0 l) + ∑ r : Fin 20000, share m c l k (row t r) := by
  have hx : ∀ r : Fin 20000, (fun k : Fin 100 => (iblk m c 2 t : Vec Ideal S20000x100 .f32) (ix2 r k))
      = fun k => logits m c (ix2 (row t r) k) := fun r => funext fun k => iblk_logits m c t r k
  unfold next
  match k with
  | 0 =>
    refine (step0_apply _ _ _ _ l).trans (congrArg _ (Finset.sum_congr rfl fun r _ => ?_))
    rw [iblk_lo, iblk_hi, hx]
    exact (mul_one _).symm
  | 1 =>
    refine (step1_apply _ _ _ _ l).trans (congrArg _ (Finset.sum_congr rfl fun r _ => ?_))
    rw [iblk_lo, iblk_hi, hx]
    rfl
  | 2 =>
    refine (step2_apply _ _ _ _ _ l).trans (congrArg _ (Finset.sum_congr rfl fun r _ => ?_))
    rw [iblk_lo, iblk_hi, hx, hits_apply, hx, iblk_labels]
    simp only [iblk_logits]
    rfl

/-- A point's shares, counted on from the rows before it. -/
theorem shares_at (t : Fin cfg0.N) (l : Fin 128) (k : Fin 3) :
    ∑ r : Fin 20000, share m c l k (row t r) = ∑ r ∈ Finset.range 20000, shareAt m c l k (20000 * t.val + r) := by
  rw [Finset.sum_range]
  exact Finset.sum_congr rfl fun r _ => (shareAt_row m c l k (row t r)).symm

/-- The rows of sums start at zero. -/
theorem start_apply (k : Fin 3) (l : Fin 128) : start (F := Ideal) k (ix2 0 l) = 0 := Ideal.ofBits_zero_f32

/-- After point `n` the rows of sums hold the shares of the first `20000 (n + 1)` rows. -/
theorem rows_apply (l : Fin 128) (k : Fin 3) : ∀ (n : ℕ) (h : n < cfg0.N),
    rows m c n h k (ix2 0 l) = ∑ i ∈ Finset.range (20000 * n + 20000), shareAt m c l k i
  | 0, h => by
    rw [rows, next_apply, start_apply, zero_add, shares_at, Nat.mul_zero, Nat.zero_add]
    exact Finset.sum_congr rfl fun r _ => congrArg _ (Nat.zero_add r)
  | n + 1, h => by
    rw [rows, next_apply, rows_apply l k n, shares_at, Finset.sum_range_add _ (20000 * (n + 1)) 20000]
    rfl

/-- After the last point they hold the shares of all rows. -/
theorem total_apply (l : Fin 128) (k : Fin 3) : total m c k (ix2 0 l) = ∑ i : Fin 1000000, share m c l k i := by
  have e : 20000 * 49 + 20000 = 1000000 := by norm_num
  unfold total
  rw [rows_apply, e, Finset.sum_range]
  exact Finset.sum_congr rfl fun i _ => shareAt_row m c l k i

/-- The words of the first ten lower bounds are the reference's. -/
theorem lit0_bin : ∀ b : Fin 10, lit0 (b.castLE (by decide)) = Cert.ReferenceIdeal.lit0 b.castSucc := by decide +kernel

/-- The words of the first ten upper bounds are the reference's. -/
theorem lit1_bin : ∀ b : Fin 10, lit1 (b.castLE (by decide)) = Cert.ReferenceIdeal.lit0 b.succ := by decide +kernel

/-- Past the tenth lane the lower bound is infinite. -/
theorem lit0_pad : ∀ l : Fin 128, 10 ≤ l.val → lit0 l = 0x7F800000#32 := by decide +kernel

/-- The reference's upper bounds are finite. -/
theorem hi_ne_top (b : Fin 10) : Cert.ReferenceIdeal.Value.hi b ≠ ⊤ := by
  unfold Cert.ReferenceIdeal.Value.hi
  fin_cases b <;> simp [Ideal.ofBits, Ideal.ieee, Cert.ReferenceIdeal.lit0, -EReal.coe_mul]

/-- An empty lane holds nothing. -/
theorem total_pad (l : Fin 128) (hl : 10 ≤ l.val) (k : Fin 3) : total m c k (ix2 0 l) = 0 := by
  rw [total_apply]
  refine Finset.sum_eq_zero fun i _ => ?_
  unfold share
  rw [lit0_pad l hl, Math.ofBits_top, Math.ind_top, zero_mul]

variable [Cert.Pre_label_is_first_maximum.Facts]

/-- A lane of the first ten holds the reference's count, sum of confidences and sum of hits of its bin. -/
theorem total_bin (hp : Cert.Pre_label_is_first_maximum.fn (F := Ideal) (logits m c) (labs m c) = fun _ => 1#1) (b : Fin 10) :
    total m c 0 (ix2 0 (b.castLE (by decide))) = Cert.ReferenceIdeal.Value.cnt (logits m c) b
    ∧ total m c 1 (ix2 0 (b.castLE (by decide))) = Cert.ReferenceIdeal.Value.confSum (logits m c) b
    ∧ total m c 2 (ix2 0 (b.castLE (by decide))) = Cert.ReferenceIdeal.Value.accSum (logits m c) (labs m c) b := by
  rw [total_apply, total_apply, total_apply]
  unfold share
  rw [lit0_bin, lit1_bin]
  refine ⟨Finset.sum_congr rfl fun i _ => ?_, Finset.sum_congr rfl fun i _ => ?_, Finset.sum_congr rfl fun i _ => ?_⟩
  · rw [Cert.ReferenceIdeal.Value.conf_apply]
    exact (mul_one _).trans (Math.ind_conf _ _ _ (hi_ne_top b))
  · rw [Cert.ReferenceIdeal.Value.conf_apply]
    exact Math.ind_mul_conf _ _ _ (hi_ne_top b)
  · exact Cert.ReferenceIdeal.Value.ind_mul_acc (logits m c) (labs m c) hp i _ _ (hi_ne_top b)

/-- The one entry of a one-by-one table, as a number. -/
theorem cast_one (v : Vec Ideal S1x1 .f32) (j : S_.Idx) : shapeCast S_ v shapeCasts_S1x1_S_ j = v (ix2 0 0) :=
  shapeCast_apply v _ _ _ (by
    have h := (S_.rowMajor j).isLt
    have e : S_.numel = 1 := by decide
    rw [Shape.rowMajor_val_two]
    show 0 * 1 + 0 = _
    omega)

/-- Under the precondition the kernel's expected error is the reference's. -/
theorem ece_eq (hp : Cert.Pre_label_is_first_maximum.fn (F := Ideal) (logits m c) (labs m c) = fun _ => 1#1) :
    ece m c = Cert.ReferenceIdeal.Value.ece (logits m c) (labs m c) := by
  funext j
  unfold ece
  rw [cast_one, pay7_apply, Cert.ReferenceIdeal.Value.ece_apply]
  refine Math.sum_lanes _ _ (fun b => ?_) fun l hl => ?_
  · obtain ⟨h0, h1, h2⟩ := total_bin m c hp b
    rw [h0, h1, h2]
  · rw [total_pad m c l hl, Math.eceTerm_empty]

/-- Under the precondition the kernel's maximum error is the reference's. -/
theorem mce_eq (hp : Cert.Pre_label_is_first_maximum.fn (F := Ideal) (logits m c) (labs m c) = fun _ => 1#1) :
    mce m c = Cert.ReferenceIdeal.Value.mce (logits m c) (labs m c) := by
  funext j
  unfold mce
  rw [cast_one, pay8_apply, Cert.ReferenceIdeal.Value.mce_apply]
  refine Math.sup_lanes _ _ (fun b => ?_) fun l hl => ?_
  · obtain ⟨h0, h1, h2⟩ := total_bin m c hp b
    rw [h0, h1, h2]
  · rw [total_pad m c l hl]
    exact Math.mceTerm_empty_le _ _ _ _ _

end Rows

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_label_is_first_maximum
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments as they were, and ends with every counter at zero. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- Under the precondition the kernel and the reference end with the same two errors. -/
theorem algebraic : Cert.algebraic_KernelIdeal_ReferenceIdeal_pre_label_is_first_maximum := by
  intro m ρ m' ρ' hp hagree
  refine ⟨fun c => Cert.KernelIdeal.Value.ece m c, fun c => Cert.KernelIdeal.Value.mce m c,
    Cert.KernelIdeal.Value.run (F := Ideal) m ρ, ?_⟩
  refine (θ_run Cert.ReferenceIdeal.defs _ _).mono (fun _ h c => ?_) (Cert.ReferenceIdeal.Value.run (F := Ideal) m' ρ')
  obtain ⟨h0, h1, h2⟩ := h c
  obtain ⟨a0, a1⟩ := hagree c
  rw [a0, a1] at h0 h1
  exact ⟨h0.trans (Cert.KernelIdeal.Value.ece_eq m c (hp c)).symm, h1.trans (Cert.KernelIdeal.Value.mce_eq m c (hp c)).symm, h2⟩

/-- Every claim of the certificate. -/
theorem claim : Cert.Claim := ⟨Cert.Kernel.Gen.facts, Cert.KernelIdeal.Gen.facts, Cert.ReferenceIdeal.Gen.facts, Cert.Pre_label_is_first_maximum.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
